-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S8x512x512 : Shape := ⟨3, ![8, 512, 512]⟩
abbrev S512x2816 : Shape := ⟨2, ![512, 2816]⟩
abbrev S7x512x2816 : Shape := ⟨3, ![7, 512, 2816]⟩
abbrev S7x512x2688 : Shape := ⟨3, ![7, 512, 2688]⟩
abbrev S_ : Shape := ⟨0, ![]⟩
abbrev S8 : Shape := ⟨1, ![8]⟩
abbrev S512x2688 : Shape := ⟨2, ![512, 2688]⟩
abbrev S1x512x2816 : Shape := ⟨3, ![1, 512, 2816]⟩
abbrev S1x512x512 : Shape := ⟨3, ![1, 512, 512]⟩
abbrev S512x512 : Shape := ⟨2, ![512, 512]⟩
abbrev S1x512x2688 : Shape := ⟨3, ![1, 512, 2688]⟩
abbrev S1x512x1408 : Shape := ⟨3, ![1, 512, 1408]⟩
abbrev S512x1408 : Shape := ⟨2, ![512, 1408]⟩
abbrev S1x512x1280 : Shape := ⟨3, ![1, 512, 1280]⟩
abbrev S512x1280 : Shape := ⟨2, ![512, 1280]⟩

abbrev nBuf : Space → Nat
  | .hbm => 5
  | .vmem => 8
  | .smem => 2
  | _ => 0

abbrev bufTy : (tb : Table) → Fin (tcTables nBuf tb) → BufTy
  | .hbm, ⟨0, _⟩ => ⟨S4096x512, .fp8e5m2⟩
  | .hbm, ⟨1, _⟩ => ⟨S512x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e5m2⟩
  | .local _ .vmem, ⟨1, _⟩ => ⟨S512x8192, .f32⟩
  | .local _ .vmem, ⟨2, _⟩ => ⟨S8x512x512, .fp8e5m2⟩
  | .local _ .vmem, ⟨3, _⟩ => ⟨S512x2816, .f32⟩
  | .local _ .vmem, ⟨4, _⟩ => ⟨S512x8192, .fp8e5m2⟩
  | .local _ .vmem, ⟨5, _⟩ => ⟨S7x512x2816, .fp8e5m2⟩
  | .local _ .vmem, ⟨6, _⟩ => ⟨S7x512x2688, .fp8e5m2⟩
  | .local _ .vmem, ⟨7, _⟩ => ⟨S7x512x2688, .fp8e5m2⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.addi v2 c1_i32_4
  let c8_i32_5 : BitVec 32 := 8#32
  let v12 : BitVec 32 := Scalar.remsi v11 c8_i32_5
  let c1_i32_7 : BitVec 32 := 1#32
  let v13 : BitVec 32 := Scalar.muli v12 c1_i32_7
  let v14 : BitVec 32 := Scalar.addi c0_i32_8 v13
  v14.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v15 : BitVec 32 := Scalar.addi v2 c2_i32
  let c8_i32_9 : BitVec 32 := 8#32
  let v16 : BitVec 32 := Scalar.remsi v15 c8_i32_9
  let c1_i32_11 : BitVec 32 := 1#32
  let v17 : BitVec 32 := Scalar.muli v16 c1_i32_11
  let v18 : BitVec 32 := Scalar.addi c0_i32_12 v17
  v18.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_13 : BitVec 32 := 3#32
  let v19 : BitVec 32 := Scalar.addi v2 c3_i32_13
  let c8_i32_14 : BitVec 32 := 8#32
  let v20 : BitVec 32 := Scalar.remsi v19 c8_i32_14
  let c1_i32_16 : BitVec 32 := 1#32
  let v21 : BitVec 32 := Scalar.muli v20 c1_i32_16
  let v22 : BitVec 32 := Scalar.addi c0_i32_17 v21
  v22.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v23 : BitVec 32 := Scalar.addi v2 c4_i32_18
  let c8_i32_19 : BitVec 32 := 8#32
  let v24 : BitVec 32 := Scalar.remsi v23 c8_i32_19
  let c1_i32_21 : BitVec 32 := 1#32
  let v25 : BitVec 32 := Scalar.muli v24 c1_i32_21
  let v26 : BitVec 32 := Scalar.addi c0_i32_22 v25
  v26.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v27 : BitVec 32 := Scalar.addi v2 c5_i32
  let c8_i32_23 : BitVec 32 := 8#32
  let v28 : BitVec 32 := Scalar.remsi v27 c8_i32_23
  let c1_i32_25 : BitVec 32 := 1#32
  let v29 : BitVec 32 := Scalar.muli v28 c1_i32_25
  let v30 : BitVec 32 := Scalar.addi c0_i32_26 v29
  v30.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v31 : BitVec 32 := Scalar.addi v2 c6_i32
  let c8_i32_27 : BitVec 32 := 8#32
  let v32 : BitVec 32 := Scalar.remsi v31 c8_i32_27
  let c1_i32_29 : BitVec 32 := 1#32
  let v33 : BitVec 32 := Scalar.muli v32 c1_i32_29
  let v34 : BitVec 32 := Scalar.addi c0_i32_30 v33
  v34.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v35 : BitVec 32 := Scalar.addi v2 c7_i32
  let c8_i32_31 : BitVec 32 := 8#32
  let v36 : BitVec 32 := Scalar.remsi v35 c8_i32_31
  let c1_i32_33 : BitVec 32 := 1#32
  let v37 : BitVec 32 := Scalar.muli v36 c1_i32_33
  let v38 : BitVec 32 := Scalar.addi c0_i32_34 v37
  v38.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_46 : BitVec 32 := 1#32
  let v48 : BitVec 32 := Scalar.xori v7 c1_i32_46
  let c4_i32_48 : BitVec 32 := 4#32
  let v50 : BitVec 32 := Scalar.andi v48 c4_i32_48
  let c3_i32_47 : BitVec 32 := 3#32
  let v49 : BitVec 32 := Scalar.andi v48 c3_i32_47
  let c1_i32_49 : BitVec 32 := 1#32
  let v51 : BitVec 32 := Scalar.shrsi v49 c1_i32_49
  let v52 : BitVec 32 := Scalar.xori v49 v51
  let v53 : BitVec 32 := Scalar.ori v50 v52
  let c1_i32_53 : BitVec 32 := 1#32
  let v54 : BitVec 32 := Scalar.muli v53 c1_i32_53
  let v55 : BitVec 32 := Scalar.addi c0_i32_54 v54
  v55.toNat
def k0_dev9 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_59 : BitVec 32 := 2#32
  let v63 : BitVec 32 := Scalar.xori v7 c2_i32_59
  let c4_i32_61 : BitVec 32 := 4#32
  let v65 : BitVec 32 := Scalar.andi v63 c4_i32_61
  let c3_i32_60 : BitVec 32 := 3#32
  let v64 : BitVec 32 := Scalar.andi v63 c3_i32_60
  let c1_i32_62 : BitVec 32 := 1#32
  let v66 : BitVec 32 := Scalar.shrsi v64 c1_i32_62
  let v67 : BitVec 32 := Scalar.xori v64 v66
  let v68 : BitVec 32 := Scalar.ori v65 v67
  let c1_i32_66 : BitVec 32 := 1#32
  let v69 : BitVec 32 := Scalar.muli v68 c1_i32_66
  let v70 : BitVec 32 := Scalar.addi c0_i32_67 v69
  v70.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_72 : BitVec 32 := 4#32
  let v78 : BitVec 32 := Scalar.xori v7 c4_i32_72
  let c4_i32_74 : BitVec 32 := 4#32
  let v80 : BitVec 32 := Scalar.andi v78 c4_i32_74
  let c3_i32_73 : BitVec 32 := 3#32
  let v79 : BitVec 32 := Scalar.andi v78 c3_i32_73
  let c1_i32_75 : BitVec 32 := 1#32
  let v81 : BitVec 32 := Scalar.shrsi v79 c1_i32_75
  let v82 : BitVec 32 := Scalar.xori v79 v81
  let v83 : BitVec 32 := Scalar.ori v80 v82
  let c1_i32_79 : BitVec 32 := 1#32
  let v84 : BitVec 32 := Scalar.muli v83 c1_i32_79
  let v85 : BitVec 32 := Scalar.addi c0_i32_80 v84
  v85.toNat
def k0_off1 (d0 : Dev nD) (c1_i32_85 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v93 : BitVec 32 := Scalar.xori v7 c1_i32_85
  let c4_i32_87 : BitVec 32 := 4#32
  let v95 : BitVec 32 := Scalar.andi v93 c4_i32_87
  let c3_i32_86 : BitVec 32 := 3#32
  let v94 : BitVec 32 := Scalar.andi v93 c3_i32_86
  let c1_i32_88 : BitVec 32 := 1#32
  let v96 : BitVec 32 := Scalar.shrsi v94 c1_i32_88
  let v97 : BitVec 32 := Scalar.xori v94 v96
  let v98 : BitVec 32 := Scalar.ori v95 v97
  let c512_i32 : BitVec 32 := 512#32
  let v99 : BitVec 32 := Scalar.muli v98 c512_i32
  let c0_i32_96 : BitVec 32 := 0#32
  ![v99.toNat, 0]
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_85 : BitVec 32 := 1#32
  let v93 : BitVec 32 := Scalar.xori v7 c1_i32_85
  let c4_i32_87 : BitVec 32 := 4#32
  let v95 : BitVec 32 := Scalar.andi v93 c4_i32_87
  let c3_i32_86 : BitVec 32 := 3#32
  let v94 : BitVec 32 := Scalar.andi v93 c3_i32_86
  let c1_i32_88 : BitVec 32 := 1#32
  let v96 : BitVec 32 := Scalar.shrsi v94 c1_i32_88
  let v97 : BitVec 32 := Scalar.xori v94 v96
  let v98 : BitVec 32 := Scalar.ori v95 v97
  let c1_i32_92 : BitVec 32 := 1#32
  let v100 : BitVec 32 := Scalar.muli v98 c1_i32_92
  let v101 : BitVec 32 := Scalar.addi c0_i32_93 v100
  v101.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_97 : BitVec 32 := 2#32
  let v109 : BitVec 32 := Scalar.xori v7 c2_i32_97
  let c4_i32_99 : BitVec 32 := 4#32
  let v111 : BitVec 32 := Scalar.andi v109 c4_i32_99
  let c3_i32_98 : BitVec 32 := 3#32
  let v110 : BitVec 32 := Scalar.andi v109 c3_i32_98
  let c1_i32_100 : BitVec 32 := 1#32
  let v112 : BitVec 32 := Scalar.shrsi v110 c1_i32_100
  let v113 : BitVec 32 := Scalar.xori v110 v112
  let v114 : BitVec 32 := Scalar.ori v111 v113
  let c1_i32_105 : BitVec 32 := 1#32
  let v116 : BitVec 32 := Scalar.muli v114 c1_i32_105
  let v117 : BitVec 32 := Scalar.addi c0_i32_106 v116
  v117.toNat
def k0_dev13 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_110 : BitVec 32 := 4#32
  let v125 : BitVec 32 := Scalar.xori v7 c4_i32_110
  let c4_i32_112 : BitVec 32 := 4#32
  let v127 : BitVec 32 := Scalar.andi v125 c4_i32_112
  let c3_i32_111 : BitVec 32 := 3#32
  let v126 : BitVec 32 := Scalar.andi v125 c3_i32_111
  let c1_i32_113 : BitVec 32 := 1#32
  let v128 : BitVec 32 := Scalar.shrsi v126 c1_i32_113
  let v129 : BitVec 32 := Scalar.xori v126 v128
  let v130 : BitVec 32 := Scalar.ori v127 v129
  let c1_i32_118 : BitVec 32 := 1#32
  let v132 : BitVec 32 := Scalar.muli v130 c1_i32_118
  let v133 : BitVec 32 := Scalar.addi c0_i32_119 v132
  v133.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_133 : BitVec 32 := 1#32
  let v150 : BitVec 32 := Scalar.xori v7 c1_i32_133
  let c4_i32_135 : BitVec 32 := 4#32
  let v152 : BitVec 32 := Scalar.andi v150 c4_i32_135
  let c3_i32_134 : BitVec 32 := 3#32
  let v151 : BitVec 32 := Scalar.andi v150 c3_i32_134
  let c1_i32_136 : BitVec 32 := 1#32
  let v153 : BitVec 32 := Scalar.shrsi v151 c1_i32_136
  let v154 : BitVec 32 := Scalar.xori v151 v153
  let v155 : BitVec 32 := Scalar.ori v152 v154
  let c1_i32_140 : BitVec 32 := 1#32
  let v156 : BitVec 32 := Scalar.muli v155 c1_i32_140
  let v157 : BitVec 32 := Scalar.addi c0_i32_141 v156
  v157.toNat
def k0_dev15 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_146 : BitVec 32 := 2#32
  let v165 : BitVec 32 := Scalar.xori v7 c2_i32_146
  let c4_i32_148 : BitVec 32 := 4#32
  let v167 : BitVec 32 := Scalar.andi v165 c4_i32_148
  let c3_i32_147 : BitVec 32 := 3#32
  let v166 : BitVec 32 := Scalar.andi v165 c3_i32_147
  let c1_i32_149 : BitVec 32 := 1#32
  let v168 : BitVec 32 := Scalar.shrsi v166 c1_i32_149
  let v169 : BitVec 32 := Scalar.xori v166 v168
  let v170 : BitVec 32 := Scalar.ori v167 v169
  let c1_i32_153 : BitVec 32 := 1#32
  let v171 : BitVec 32 := Scalar.muli v170 c1_i32_153
  let v172 : BitVec 32 := Scalar.addi c0_i32_154 v171
  v172.toNat
def k0_dev16 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_159 : BitVec 32 := 4#32
  let v180 : BitVec 32 := Scalar.xori v7 c4_i32_159
  let c4_i32_161 : BitVec 32 := 4#32
  let v182 : BitVec 32 := Scalar.andi v180 c4_i32_161
  let c3_i32_160 : BitVec 32 := 3#32
  let v181 : BitVec 32 := Scalar.andi v180 c3_i32_160
  let c1_i32_162 : BitVec 32 := 1#32
  let v183 : BitVec 32 := Scalar.shrsi v181 c1_i32_162
  let v184 : BitVec 32 := Scalar.xori v181 v183
  let v185 : BitVec 32 := Scalar.ori v182 v184
  let c1_i32_166 : BitVec 32 := 1#32
  let v186 : BitVec 32 := Scalar.muli v185 c1_i32_166
  let v187 : BitVec 32 := Scalar.addi c0_i32_167 v186
  v187.toNat
def k0_dev17 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c3_i32_172 : BitVec 32 := 3#32
  let v195 : BitVec 32 := Scalar.xori v7 c3_i32_172
  let c4_i32_174 : BitVec 32 := 4#32
  let v197 : BitVec 32 := Scalar.andi v195 c4_i32_174
  let c3_i32_173 : BitVec 32 := 3#32
  let v196 : BitVec 32 := Scalar.andi v195 c3_i32_173
  let c1_i32_175 : BitVec 32 := 1#32
  let v198 : BitVec 32 := Scalar.shrsi v196 c1_i32_175
  let v199 : BitVec 32 := Scalar.xori v196 v198
  let v200 : BitVec 32 := Scalar.ori v197 v199
  let c1_i32_180 : BitVec 32 := 1#32
  let v202 : BitVec 32 := Scalar.muli v200 c1_i32_180
  let v203 : BitVec 32 := Scalar.addi c0_i32_181 v202
  v203.toNat
def k0_dev18 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c5_i32_185 : BitVec 32 := 5#32
  let v211 : BitVec 32 := Scalar.xori v7 c5_i32_185
  let c4_i32_187 : BitVec 32 := 4#32
  let v213 : BitVec 32 := Scalar.andi v211 c4_i32_187
  let c3_i32_186 : BitVec 32 := 3#32
  let v212 : BitVec 32 := Scalar.andi v211 c3_i32_186
  let c1_i32_188 : BitVec 32 := 1#32
  let v214 : BitVec 32 := Scalar.shrsi v212 c1_i32_188
  let v215 : BitVec 32 := Scalar.xori v212 v214
  let v216 : BitVec 32 := Scalar.ori v213 v215
  let c1_i32_193 : BitVec 32 := 1#32
  let v218 : BitVec 32 := Scalar.muli v216 c1_i32_193
  let v219 : BitVec 32 := Scalar.addi c0_i32_194 v218
  v219.toNat
def k0_dev19 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c6_i32_198 : BitVec 32 := 6#32
  let v227 : BitVec 32 := Scalar.xori v7 c6_i32_198
  let c4_i32_200 : BitVec 32 := 4#32
  let v229 : BitVec 32 := Scalar.andi v227 c4_i32_200
  let c3_i32_199 : BitVec 32 := 3#32
  let v228 : BitVec 32 := Scalar.andi v227 c3_i32_199
  let c1_i32_201 : BitVec 32 := 1#32
  let v230 : BitVec 32 := Scalar.shrsi v228 c1_i32_201
  let v231 : BitVec 32 := Scalar.xori v228 v230
  let v232 : BitVec 32 := Scalar.ori v229 v231
  let c1_i32_206 : BitVec 32 := 1#32
  let v234 : BitVec 32 := Scalar.muli v232 c1_i32_206
  let v235 : BitVec 32 := Scalar.addi c0_i32_207 v234
  v235.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c7_i32_211 : BitVec 32 := 7#32
  let v243 : BitVec 32 := Scalar.xori v7 c7_i32_211
  let c4_i32_213 : BitVec 32 := 4#32
  let v245 : BitVec 32 := Scalar.andi v243 c4_i32_213
  let c3_i32_212 : BitVec 32 := 3#32
  let v244 : BitVec 32 := Scalar.andi v243 c3_i32_212
  let c1_i32_214 : BitVec 32 := 1#32
  let v246 : BitVec 32 := Scalar.shrsi v244 c1_i32_214
  let v247 : BitVec 32 := Scalar.xori v244 v246
  let v248 : BitVec 32 := Scalar.ori v245 v247
  let c1_i32_219 : BitVec 32 := 1#32
  let v250 : BitVec 32 := Scalar.muli v248 c1_i32_219
  let v251 : BitVec 32 := Scalar.addi c0_i32_220 v250
  v251.toNat
def k0_dev21 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_231 : BitVec 32 := 1#32
  let v266 : BitVec 32 := Scalar.xori v7 c1_i32_231
  let c4_i32_233 : BitVec 32 := 4#32
  let v268 : BitVec 32 := Scalar.andi v266 c4_i32_233
  let c3_i32_232 : BitVec 32 := 3#32
  let v267 : BitVec 32 := Scalar.andi v266 c3_i32_232
  let c1_i32_234 : BitVec 32 := 1#32
  let v269 : BitVec 32 := Scalar.shrsi v267 c1_i32_234
  let v270 : BitVec 32 := Scalar.xori v267 v269
  let v271 : BitVec 32 := Scalar.ori v268 v270
  let c1_i32_238 : BitVec 32 := 1#32
  let v272 : BitVec 32 := Scalar.muli v271 c1_i32_238
  let v273 : BitVec 32 := Scalar.addi c0_i32_239 v272
  v273.toNat
def k0_dev22 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_244 : BitVec 32 := 2#32
  let v281 : BitVec 32 := Scalar.xori v7 c2_i32_244
  let c4_i32_246 : BitVec 32 := 4#32
  let v283 : BitVec 32 := Scalar.andi v281 c4_i32_246
  let c3_i32_245 : BitVec 32 := 3#32
  let v282 : BitVec 32 := Scalar.andi v281 c3_i32_245
  let c1_i32_247 : BitVec 32 := 1#32
  let v284 : BitVec 32 := Scalar.shrsi v282 c1_i32_247
  let v285 : BitVec 32 := Scalar.xori v282 v284
  let v286 : BitVec 32 := Scalar.ori v283 v285
  let c1_i32_251 : BitVec 32 := 1#32
  let v287 : BitVec 32 := Scalar.muli v286 c1_i32_251
  let v288 : BitVec 32 := Scalar.addi c0_i32_252 v287
  v288.toNat
def k0_dev23 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_257 : BitVec 32 := 4#32
  let v296 : BitVec 32 := Scalar.xori v7 c4_i32_257
  let c4_i32_259 : BitVec 32 := 4#32
  let v298 : BitVec 32 := Scalar.andi v296 c4_i32_259
  let c3_i32_258 : BitVec 32 := 3#32
  let v297 : BitVec 32 := Scalar.andi v296 c3_i32_258
  let c1_i32_260 : BitVec 32 := 1#32
  let v299 : BitVec 32 := Scalar.shrsi v297 c1_i32_260
  let v300 : BitVec 32 := Scalar.xori v297 v299
  let v301 : BitVec 32 := Scalar.ori v298 v300
  let c1_i32_264 : BitVec 32 := 1#32
  let v302 : BitVec 32 := Scalar.muli v301 c1_i32_264
  let v303 : BitVec 32 := Scalar.addi c0_i32_265 v302
  v303.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_270 : BitVec 32 := 512#32
  let v311 : BitVec 32 := Scalar.muli v2 c512_i32_270
  let v312 : Index := Scalar.indexCast v311
  let c0_271 : Index := 0#32
  ![v312.toNat, 0]
def k0_dev24 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_324 : BitVec 32 := 2#32
  let v359 : BitVec 32 := Scalar.xori v7 c2_i32_324
  let c4_i32_326 : BitVec 32 := 4#32
  let v361 : BitVec 32 := Scalar.andi v359 c4_i32_326
  let c3_i32_325 : BitVec 32 := 3#32
  let v360 : BitVec 32 := Scalar.andi v359 c3_i32_325
  let c1_i32_327 : BitVec 32 := 1#32
  let v362 : BitVec 32 := Scalar.shrsi v360 c1_i32_327
  let v363 : BitVec 32 := Scalar.xori v360 v362
  let v364 : BitVec 32 := Scalar.ori v361 v363
  let c1_i32_332 : BitVec 32 := 1#32
  let v365 : BitVec 32 := Scalar.muli v364 c1_i32_332
  let v366 : BitVec 32 := Scalar.addi c0_i32_333 v365
  v366.toNat
def k0_dev25 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_338 : BitVec 32 := 4#32
  let v375 : BitVec 32 := Scalar.xori v7 c4_i32_338
  let c4_i32_340 : BitVec 32 := 4#32
  let v377 : BitVec 32 := Scalar.andi v375 c4_i32_340
  let c3_i32_339 : BitVec 32 := 3#32
  let v376 : BitVec 32 := Scalar.andi v375 c3_i32_339
  let c1_i32_341 : BitVec 32 := 1#32
  let v378 : BitVec 32 := Scalar.shrsi v376 c1_i32_341
  let v379 : BitVec 32 := Scalar.xori v376 v378
  let v380 : BitVec 32 := Scalar.ori v377 v379
  let c1_i32_346 : BitVec 32 := 1#32
  let v381 : BitVec 32 := Scalar.muli v380 c1_i32_346
  let v382 : BitVec 32 := Scalar.addi c0_i32_347 v381
  v382.toNat
def k0_dev26 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_373 : BitVec 32 := 4#32
  let v408 : BitVec 32 := Scalar.xori v7 c4_i32_373
  let c4_i32_375 : BitVec 32 := 4#32
  let v410 : BitVec 32 := Scalar.andi v408 c4_i32_375
  let c3_i32_374 : BitVec 32 := 3#32
  let v409 : BitVec 32 := Scalar.andi v408 c3_i32_374
  let c1_i32_376 : BitVec 32 := 1#32
  let v411 : BitVec 32 := Scalar.shrsi v409 c1_i32_376
  let v412 : BitVec 32 := Scalar.xori v409 v411
  let v413 : BitVec 32 := Scalar.ori v410 v412
  let c1_i32_381 : BitVec 32 := 1#32
  let v414 : BitVec 32 := Scalar.muli v413 c1_i32_381
  let v415 : BitVec 32 := Scalar.addi c0_i32_382 v414
  v415.toNat
def k0_dev27 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_408 : BitVec 32 := 1#32
  let v441 : BitVec 32 := Scalar.xori v7 c1_i32_408
  let c4_i32_410 : BitVec 32 := 4#32
  let v443 : BitVec 32 := Scalar.andi v441 c4_i32_410
  let c3_i32_409 : BitVec 32 := 3#32
  let v442 : BitVec 32 := Scalar.andi v441 c3_i32_409
  let c1_i32_411 : BitVec 32 := 1#32
  let v444 : BitVec 32 := Scalar.shrsi v442 c1_i32_411
  let v445 : BitVec 32 := Scalar.xori v442 v444
  let v446 : BitVec 32 := Scalar.ori v443 v445
  let c1_i32_416 : BitVec 32 := 1#32
  let v447 : BitVec 32 := Scalar.muli v446 c1_i32_416
  let v448 : BitVec 32 := Scalar.addi c0_i32_417 v447
  v448.toNat
def k0_dev28 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_473 : BitVec 32 := 1#32
  let v499 : BitVec 32 := Scalar.xori v7 c1_i32_473
  let c4_i32_475 : BitVec 32 := 4#32
  let v501 : BitVec 32 := Scalar.andi v499 c4_i32_475
  let c3_i32_474 : BitVec 32 := 3#32
  let v500 : BitVec 32 := Scalar.andi v499 c3_i32_474
  let c1_i32_476 : BitVec 32 := 1#32
  let v502 : BitVec 32 := Scalar.shrsi v500 c1_i32_476
  let v503 : BitVec 32 := Scalar.xori v500 v502
  let v504 : BitVec 32 := Scalar.ori v501 v503
  let c1_i32_481 : BitVec 32 := 1#32
  let v505 : BitVec 32 := Scalar.muli v504 c1_i32_481
  let v506 : BitVec 32 := Scalar.addi c0_i32_482 v505
  v506.toNat
def k0_dev29 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_487 : BitVec 32 := 4#32
  let v515 : BitVec 32 := Scalar.xori v7 c4_i32_487
  let c4_i32_489 : BitVec 32 := 4#32
  let v517 : BitVec 32 := Scalar.andi v515 c4_i32_489
  let c3_i32_488 : BitVec 32 := 3#32
  let v516 : BitVec 32 := Scalar.andi v515 c3_i32_488
  let c1_i32_490 : BitVec 32 := 1#32
  let v518 : BitVec 32 := Scalar.shrsi v516 c1_i32_490
  let v519 : BitVec 32 := Scalar.xori v516 v518
  let v520 : BitVec 32 := Scalar.ori v517 v519
  let c1_i32_495 : BitVec 32 := 1#32
  let v521 : BitVec 32 := Scalar.muli v520 c1_i32_495
  let v522 : BitVec 32 := Scalar.addi c0_i32_496 v521
  v522.toNat
def k0_dev30 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_522 : BitVec 32 := 1#32
  let v548 : BitVec 32 := Scalar.xori v7 c1_i32_522
  let c4_i32_524 : BitVec 32 := 4#32
  let v550 : BitVec 32 := Scalar.andi v548 c4_i32_524
  let c3_i32_523 : BitVec 32 := 3#32
  let v549 : BitVec 32 := Scalar.andi v548 c3_i32_523
  let c1_i32_525 : BitVec 32 := 1#32
  let v551 : BitVec 32 := Scalar.shrsi v549 c1_i32_525
  let v552 : BitVec 32 := Scalar.xori v549 v551
  let v553 : BitVec 32 := Scalar.ori v550 v552
  let c1_i32_530 : BitVec 32 := 1#32
  let v554 : BitVec 32 := Scalar.muli v553 c1_i32_530
  let v555 : BitVec 32 := Scalar.addi c0_i32_531 v554
  v555.toNat
def k0_dev31 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_536 : BitVec 32 := 2#32
  let v564 : BitVec 32 := Scalar.xori v7 c2_i32_536
  let c4_i32_538 : BitVec 32 := 4#32
  let v566 : BitVec 32 := Scalar.andi v564 c4_i32_538
  let c3_i32_537 : BitVec 32 := 3#32
  let v565 : BitVec 32 := Scalar.andi v564 c3_i32_537
  let c1_i32_539 : BitVec 32 := 1#32
  let v567 : BitVec 32 := Scalar.shrsi v565 c1_i32_539
  let v568 : BitVec 32 := Scalar.xori v565 v567
  let v569 : BitVec 32 := Scalar.ori v566 v568
  let c1_i32_544 : BitVec 32 := 1#32
  let v570 : BitVec 32 := Scalar.muli v569 c1_i32_544
  let v571 : BitVec 32 := Scalar.addi c0_i32_545 v570
  v571.toNat
def k0_dev32 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_579 : BitVec 32 := 2#32
  let v605 : BitVec 32 := Scalar.xori v7 c2_i32_579
  let c4_i32_581 : BitVec 32 := 4#32
  let v607 : BitVec 32 := Scalar.andi v605 c4_i32_581
  let c3_i32_580 : BitVec 32 := 3#32
  let v606 : BitVec 32 := Scalar.andi v605 c3_i32_580
  let c1_i32_582 : BitVec 32 := 1#32
  let v608 : BitVec 32 := Scalar.shrsi v606 c1_i32_582
  let v609 : BitVec 32 := Scalar.xori v606 v608
  let v610 : BitVec 32 := Scalar.ori v607 v609
  let c1_i32_587 : BitVec 32 := 1#32
  let v611 : BitVec 32 := Scalar.muli v610 c1_i32_587
  let v612 : BitVec 32 := Scalar.addi c0_i32_588 v611
  v612.toNat
def k0_dev33 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_635 : BitVec 32 := 4#32
  let v655 : BitVec 32 := Scalar.xori v7 c4_i32_635
  let c4_i32_637 : BitVec 32 := 4#32
  let v657 : BitVec 32 := Scalar.andi v655 c4_i32_637
  let c3_i32_636 : BitVec 32 := 3#32
  let v656 : BitVec 32 := Scalar.andi v655 c3_i32_636
  let c1_i32_638 : BitVec 32 := 1#32
  let v658 : BitVec 32 := Scalar.shrsi v656 c1_i32_638
  let v659 : BitVec 32 := Scalar.xori v656 v658
  let v660 : BitVec 32 := Scalar.ori v657 v659
  let c1_i32_643 : BitVec 32 := 1#32
  let v661 : BitVec 32 := Scalar.muli v660 c1_i32_643
  let v662 : BitVec 32 := Scalar.addi c0_i32_644 v661
  v662.toNat
def k0_dev34 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_649 : BitVec 32 := 4#32
  let v671 : BitVec 32 := Scalar.xori v7 c4_i32_649
  let c4_i32_651 : BitVec 32 := 4#32
  let v673 : BitVec 32 := Scalar.andi v671 c4_i32_651
  let c3_i32_650 : BitVec 32 := 3#32
  let v672 : BitVec 32 := Scalar.andi v671 c3_i32_650
  let c1_i32_652 : BitVec 32 := 1#32
  let v674 : BitVec 32 := Scalar.shrsi v672 c1_i32_652
  let v675 : BitVec 32 := Scalar.xori v672 v674
  let v676 : BitVec 32 := Scalar.ori v673 v675
  let c1_i32_657 : BitVec 32 := 1#32
  let v677 : BitVec 32 := Scalar.muli v676 c1_i32_657
  let v678 : BitVec 32 := Scalar.addi c0_i32_658 v677
  v678.toNat
def k0_dev35 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_786 : BitVec 32 := 2#32
  let v788 : BitVec 32 := Scalar.xori v7 c2_i32_786
  let c4_i32_788 : BitVec 32 := 4#32
  let v790 : BitVec 32 := Scalar.andi v788 c4_i32_788
  let c3_i32_787 : BitVec 32 := 3#32
  let v789 : BitVec 32 := Scalar.andi v788 c3_i32_787
  let c1_i32_789 : BitVec 32 := 1#32
  let v791 : BitVec 32 := Scalar.shrsi v789 c1_i32_789
  let v792 : BitVec 32 := Scalar.xori v789 v791
  let v793 : BitVec 32 := Scalar.ori v790 v792
  let c1_i32_794 : BitVec 32 := 1#32
  let v794 : BitVec 32 := Scalar.muli v793 c1_i32_794
  let v795 : BitVec 32 := Scalar.addi c0_i32_795 v794
  v795.toNat
def k0_dev36 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_800 : BitVec 32 := 2#32
  let v804 : BitVec 32 := Scalar.xori v7 c2_i32_800
  let c4_i32_802 : BitVec 32 := 4#32
  let v806 : BitVec 32 := Scalar.andi v804 c4_i32_802
  let c3_i32_801 : BitVec 32 := 3#32
  let v805 : BitVec 32 := Scalar.andi v804 c3_i32_801
  let c1_i32_803 : BitVec 32 := 1#32
  let v807 : BitVec 32 := Scalar.shrsi v805 c1_i32_803
  let v808 : BitVec 32 := Scalar.xori v805 v807
  let v809 : BitVec 32 := Scalar.ori v806 v808
  let c1_i32_808 : BitVec 32 := 1#32
  let v810 : BitVec 32 := Scalar.muli v809 c1_i32_808
  let v811 : BitVec 32 := Scalar.addi c0_i32_809 v810
  v811.toNat
def k0_dev37 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_865 : BitVec 32 := 1#32
  let v862 : BitVec 32 := Scalar.xori v7 c1_i32_865
  let c4_i32_867 : BitVec 32 := 4#32
  let v864 : BitVec 32 := Scalar.andi v862 c4_i32_867
  let c3_i32_866 : BitVec 32 := 3#32
  let v863 : BitVec 32 := Scalar.andi v862 c3_i32_866
  let c1_i32_868 : BitVec 32 := 1#32
  let v865 : BitVec 32 := Scalar.shrsi v863 c1_i32_868
  let v866 : BitVec 32 := Scalar.xori v863 v865
  let v867 : BitVec 32 := Scalar.ori v864 v866
  let c1_i32_873 : BitVec 32 := 1#32
  let v868 : BitVec 32 := Scalar.muli v867 c1_i32_873
  let v869 : BitVec 32 := Scalar.addi c0_i32_874 v868
  v869.toNat
def k0_dev38 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_879 : BitVec 32 := 1#32
  let v878 : BitVec 32 := Scalar.xori v7 c1_i32_879
  let c4_i32_881 : BitVec 32 := 4#32
  let v880 : BitVec 32 := Scalar.andi v878 c4_i32_881
  let c3_i32_880 : BitVec 32 := 3#32
  let v879 : BitVec 32 := Scalar.andi v878 c3_i32_880
  let c1_i32_882 : BitVec 32 := 1#32
  let v881 : BitVec 32 := Scalar.shrsi v879 c1_i32_882
  let v882 : BitVec 32 := Scalar.xori v879 v881
  let v883 : BitVec 32 := Scalar.ori v880 v882
  let c1_i32_887 : BitVec 32 := 1#32
  let v884 : BitVec 32 := Scalar.muli v883 c1_i32_887
  let v885 : BitVec 32 := Scalar.addi c0_i32_888 v884
  v885.toNat
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .f32⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
The kernel as a list of steps.

The weight columns are cut in three stripes (2816, 2688 and 2688 columns). Every device sends each stripe of its own
weight to three neighbours, and passes the stripes it receives on to the children a tree per stripe names; the last
stripe copy of a tree (cube mask 7) travels in two halves. Beside these, each device sends seven row blocks of `x`
straight to the device that needs them. This module names those 31 transfers (`Edge`), their memrefs, semaphores and
targets, and writes the kernel body as a list of steps over them; `body_eq` says the printed body is that list.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Tree

open Cert.KernelIdeal Cert.KernelIdeal.Gen
open Idealize.ShloMosaic Idealize.ShloMosaic.TcCoe
open Idealize.SL Idealize.SL.Sem

variable {F : FTy → Type} [FloatOps F]

/-! ## The stripes -/

/-- Columns of a stripe. -/
abbrev nc : Fin 3 → Nat := ![2816, 2688, 2688]
/-- First column of a stripe. -/
abbrev c0 : Fin 3 → Nat := ![0, 2816, 5504]
/-- First column of a half, within its stripe. -/
abbrev ho : Bool → Nat := fun s => bif s then 1408 else 0
/-- Columns of a half of a stripe. -/
abbrev hc : Fin 3 → Bool → Nat := fun t s => bif s then (![1408, 1280, 1280] : Fin 3 → Nat) t else 1408

/-- The landing buffer of a stripe: seven slots, slot `m` for the sender at cube mask `m + 1`. -/
def wb : (t : Fin 3) → Memref sig .tc .vmem ⟨3, ![7, 512, nc t]⟩ .fp8e5m2
  | 0 => Memref.whole cc0_scratch3
  | 1 => Memref.whole cc0_scratch4
  | 2 => Memref.whole cc0_scratch5

theorem wb_whole : ∀ t, (wb t).IsWhole
  | 0 => Memref.isWhole_whole _
  | 1 => Memref.isWhole_whole _
  | 2 => Memref.isWhole_whole _

/-! ## The transfers -/

/-- The transfers every device makes, each also one it receives. -/
inductive Edge where
  /-- A row block of `x` to the neighbour at mask `u + 1`. -/
  | x (u : Fin 7)
  /-- Stripe `t` of the weight of the device at mask `m + 1` from the receiver. -/
  | w (t : Fin 3) (m : Fin 6)
  /-- A half of stripe `t` of the weight of the device at mask 7 from the receiver. -/
  | v (t : Fin 3) (s : Bool)
deriving DecidableEq

/-- Transfers by kind. -/
def Edge.equiv : Fin 7 ⊕ (Fin 3 × Fin 6) ⊕ (Fin 3 × Bool) ≃ Edge where
  toFun
    | .inl u => .x u
    | .inr (.inl p) => .w p.1 p.2
    | .inr (.inr p) => .v p.1 p.2
  invFun
    | .x u => .inl u
    | .w t m => .inr (.inl (t, m))
    | .v t s => .inr (.inr (t, s))
  left_inv := by rintro (_ | _ | _) <;> rfl
  right_inv := by rintro (_ | _ | _) <;> rfl

instance : Fintype Edge := Fintype.ofEquiv _ Edge.equiv

/-- The slot a stripe is forwarded from: `none` where it is the sender's own weight. -/
def par : Fin 3 → Fin 6 → Option (Fin 6)
  | 0, 2 => some 1 | 0, 4 => some 3 | 0, 5 => some 3
  | 1, 2 => some 0 | 1, 4 => some 0 | 1, 5 => some 3
  | 2, 4 => some 0 | 2, 2 => some 1 | 2, 5 => some 1
  | _, _ => none

/-- The slot the two halves of a stripe are forwarded from. -/
def parV : Fin 3 → Fin 6 := ![2, 5, 4]

/-- The cube mask between the two ends of a transfer. -/
def mask : Edge → BitVec 32
  | .x u => BitVec.ofNat 32 (u + 1)
  | .w t m => match par t m with
    | none => BitVec.ofNat 32 (m + 1)
    | some p => BitVec.ofNat 32 ((p + 1) ^^^ (m + 1))
  | .v t _ => BitVec.ofNat 32 ((parV t + 1) ^^^ 7)

/-- The shape a transfer moves. -/
def shp : Edge → Shape
  | .x _ => S512x512
  | .w t _ => ⟨2, ![512, nc t]⟩
  | .v t s => ⟨2, ![512, hc t s]⟩

theorem inb_slot (t : Fin 3) (m : Fin 7) : ∀ a, (![m.val, 0, 0] : Fin 3 → Nat) a + (![1, 512, nc t] : Fin 3 → Nat) a ≤ (⟨3, ![7, 512, nc t]⟩ : Shape).size a := by
  revert t m; decide
theorem inb_half (t : Fin 3) (m : Fin 7) (s : Bool) : ∀ a, (![m.val, 0, ho s] : Fin 3 → Nat) a + (![1, 512, hc t s] : Fin 3 → Nat) a ≤ (⟨3, ![7, 512, nc t]⟩ : Shape).size a := by
  revert t m s; decide
theorem inb_xg (u : Fin 8) : ∀ a, (![u.val, 0, 0] : Fin 3 → Nat) a + S1x512x512.size a ≤ S8x512x512.size a := by
  revert u; decide
theorem inb_col (t : Fin 3) : ∀ a, (![0, c0 t] : Fin 2 → Nat) a + (![512, nc t] : Fin 2 → Nat) a ≤ S512x8192.size a := by
  revert t; decide
theorem inb_hcol (t : Fin 3) (s : Bool) : ∀ a, (![0, c0 t + ho s] : Fin 2 → Nat) a + (![512, hc t s] : Fin 2 → Nat) a ≤ S512x8192.size a := by
  revert t s; decide
theorem inb_stg (t : Fin 3) : ∀ a, (![0, 0] : Fin 2 → Nat) a + (![512, nc t] : Fin 2 → Nat) a ≤ S512x2816.size a := by
  revert t; decide

/-- Slot `m` of a landing buffer, -/
abbrev rSlot (t : Fin 3) (m : Fin 7) : Rect ⟨3, ![7, 512, nc t]⟩ := Rect.unit (s := ⟨3, ![7, 512, nc t]⟩) ![m.val, 0, 0] ![1, 512, nc t] (inb_slot t m)
/-- a half of it, -/
abbrev rHalf (t : Fin 3) (m : Fin 7) (s : Bool) : Rect ⟨3, ![7, 512, nc t]⟩ := Rect.unit (s := ⟨3, ![7, 512, nc t]⟩) ![m.val, 0, ho s] ![1, 512, hc t s] (inb_half t m s)
/-- slot `u` of the row-block buffer, -/
abbrev rXg (u : Fin 8) : Rect S8x512x512 := Rect.unit (s := S8x512x512) ![u.val, 0, 0] S1x512x512.size (inb_xg u)
/-- the columns of a stripe, -/
abbrev rCol (t : Fin 3) : Rect S512x8192 := Rect.unit (s := S512x8192) ![0, c0 t] ![512, nc t] (inb_col t)
/-- the columns of a half of it, -/
abbrev rHcol (t : Fin 3) (s : Bool) : Rect S512x8192 := Rect.unit (s := S512x8192) ![0, c0 t + ho s] ![512, hc t s] (inb_hcol t s)
/-- the leading columns of the staging buffer. -/
abbrev rStg (t : Fin 3) : Rect S512x2816 := Rect.unit (s := S512x2816) ![0, 0] ![512, nc t] (inb_stg t)
/-- The row block of `x` for the neighbour at mask `u + 1`. -/
abbrev rX (d0 : Dev nD) (u : Fin 7) : Rect S4096x512 := Rect.unit (s := S4096x512) (k0_off1 d0 (BitVec.ofNat 32 (1 + u.val))) S512x512.size (k0_off1_inb d0 u)

theorem sq_slot (t : Fin 3) : (⟨3, ![1, 512, nc t]⟩ : Shape).Squeezes ⟨2, ![512, nc t]⟩ := by revert t; decide
theorem sq_half (t : Fin 3) (s : Bool) : (⟨3, ![1, 512, hc t s]⟩ : Shape).Squeezes ⟨2, ![512, hc t s]⟩ := by revert t s; decide

theorem ww_slot (t : Fin 3) (m : Fin 7) : (rSlot t m).WholeWords (EltTy.packing .fp8e5m2) := by revert t m; decide
theorem ww_half (t : Fin 3) (m : Fin 7) (s : Bool) : (rHalf t m s).WholeWords (EltTy.packing .fp8e5m2) := by revert t m s; decide
theorem ww_xg (u : Fin 8) : (rXg u).WholeWords (EltTy.packing .fp8e5m2) := by revert u; decide
theorem ww_col (t : Fin 3) : (rCol t).WholeWords (EltTy.packing .fp8e5m2) := by revert t; decide
theorem pr_col (t : Fin 3) : (rCol t).PackedRows (EltTy.packing .fp8e5m2) := by revert t; decide

/-- Slot `m` as a transfer's end, -/
abbrev slotM (t : Fin 3) (m : Fin 7) : Memref sig .tc .vmem ⟨2, ![512, nc t]⟩ .fp8e5m2 :=
  ((wb t).slice (rSlot t m) (fun _ => rfl)).squeeze ⟨2, ![512, nc t]⟩ (sq_slot t)
/-- a half of it, -/
abbrev halfM (t : Fin 3) (m : Fin 7) (s : Bool) : Memref sig .tc .vmem ⟨2, ![512, hc t s]⟩ .fp8e5m2 :=
  ((wb t).slice (rHalf t m s) (fun _ => rfl)).squeeze ⟨2, ![512, hc t s]⟩ (sq_half t s)
/-- slot `u` of the row-block buffer, -/
abbrev xgM (u : Fin 8) : Memref sig .tc .vmem S512x512 .fp8e5m2 :=
  ((Memref.whole cc0_scratch0).slice (rXg u) (fun _ => rfl)).squeeze S512x512 squeezes_S1x512x512_S512x512
/-- the columns of the device's own weight. -/
abbrev colM (t : Fin 3) : Memref sig .tc .vmem ⟨2, ![512, nc t]⟩ .fp8e5m2 :=
  (Memref.whole cc0_scratch2).slice (rCol t) (fun _ => rfl)

theorem we_slot (t : Fin 3) (m : Fin 7) : (slotM t m).view.WordExact := ((wb_whole t).wordExact_slice rfl _ (ww_slot t m)).reshape _ _
theorem we_half (t : Fin 3) (m : Fin 7) (s : Bool) : (halfM t m s).view.WordExact := ((wb_whole t).wordExact_slice rfl _ (ww_half t m s)).reshape _ _
theorem we_xg (u : Fin 8) : (xgM u).view.WordExact := ((Memref.isWhole_whole cc0_scratch0).wordExact_slice rfl _ (ww_xg u)).reshape _ _
theorem we_col (t : Fin 3) : (colM t).view.WordExact := (Memref.isWhole_whole cc0_scratch2).wordExact_slice rfl _ (ww_col t)

/-- Where a transfer lands. -/
def dst : (e : Edge) → Memref sig .tc .vmem (shp e) .fp8e5m2
  | .x u => xgM u.succ
  | .w t m => slotM t m.castSucc
  | .v t s => halfM t 6 s

/-- What a transfer reads, on device `d0`. -/
def src (d0 : Dev nD) : (e : Edge) → Memref sig .tc .vmem (shp e) .fp8e5m2
  | .x u => (Memref.whole cc0_stg0_0).slice (rX d0 u) (fun _ => rfl)
  | .w t m => match par t m with
    | none => colM t
    | some p => slotM t p.castSucc
  | .v t s => halfM t (parV t).castSucc s

theorem dst_wordExact : ∀ e, (dst e).view.WordExact
  | .x u => we_xg u.succ
  | .w t m => we_slot t m.castSucc
  | .v t s => we_half t 6 s

theorem src_wordExact (d0 : Dev nD) : ∀ e, (src d0 e).view.WordExact
  | .x u => (Memref.isWhole_whole cc0_stg0_0).wordExact_slice rfl _ (k0_off1_wordsfp8e5m2 d0 u)
  | .w t m => by
    show (match par t m with | none => colM t | some p => slotM t p.castSucc : Memref sig .tc .vmem _ .fp8e5m2).view.WordExact
    cases par t m with
    | none => exact we_col t
    | some p => exact we_slot t p.castSucc
  | .v t s => we_half t (parV t).castSucc s

theorem inb_sem (i : Fin 8) : ∀ a, (![i.val] : Fin 1 → Nat) a + S1.size a ≤ S8.size a := by revert i; decide

/-- Semaphore `i` of an array of eight. -/
abbrev semAt (a : DmaSems sig S8) (i : Fin 8) : DmaSem sig :=
  ((a.slice (Rect.unit (s := S8) ![i.val] S1.size (inb_sem i))).squeeze S_ squeezes_S1_S_).sem

/-- The slot of its array a transfer's semaphores sit at. -/
def semIx : Edge → Fin 8
  | .x u => u.succ
  | .w _ m => m.succ.castSucc
  | .v _ s => bif s then 0 else 7

/-- The semaphore a transfer's source is released by, -/
def sendSem : Edge → DmaSem sig
  | .x u => semAt cc0_scratch7 (semIx (.x u))
  | .w t m => semAt (match t with | 0 => cc0_scratch9 | 1 => cc0_scratch11 | 2 => cc0_scratch13) (semIx (.w t m))
  | .v t s => semAt (match t with | 0 => cc0_scratch9 | 1 => cc0_scratch11 | 2 => cc0_scratch13) (semIx (.v t s))
/-- and the one its landing completes on. -/
def recvSem : Edge → DmaSem sig
  | .x u => semAt cc0_scratch8 (semIx (.x u))
  | .w t m => semAt (match t with | 0 => cc0_scratch10 | 1 => cc0_scratch12 | 2 => cc0_scratch14) (semIx (.w t m))
  | .v t s => semAt (match t with | 0 => cc0_scratch10 | 1 => cc0_scratch12 | 2 => cc0_scratch14) (semIx (.v t s))

/-- The device at cube mask `u` from `d0`, as the kernel computes it. -/
def nbrW (d0 : Dev nD) (u : BitVec 32) : Nat :=
  let a := Scalar.remsi (Scalar.divsi (Dev.word d0) 1#32) 8#32
  let l := Scalar.andi a 3#32
  let b := Scalar.xori (Scalar.ori (Scalar.andi a 4#32) (Scalar.xori l (Scalar.shrsi l 1#32))) u
  let k := Scalar.andi b 3#32
  (Scalar.addi 0#32 (Scalar.muli (Scalar.ori (Scalar.andi b 4#32) (Scalar.xori k (Scalar.shrsi k 1#32))) 1#32)).toNat

theorem nbrW_lt : ∀ (d0 : Dev nD) (e : Edge), nbrW d0 (mask e) < nD := by decide +kernel

/-! ## The steps -/

/-- A step of the kernel after its entry. -/
inductive Step where
  /-- Start a transfer. -/
  | send (e : Edge)
  /-- Wait for a transfer's landing. -/
  | recv (e : Edge)
  /-- Wait for a transfer's source. -/
  | done (e : Edge)
  /-- Add one slot's product to a stripe of the output. -/
  | acc (t : Fin 3) (m : Fin 6)
  /-- Add the last product to a half of a stripe, scale, and clip at zero. -/
  | fin (t : Fin 3) (s : Bool)

abbrev KProg (F : FTy → Type) [FloatOps F] := Prog (TpuEff nD τ sig (Elt F) Λ₀ .tc)

/-- One slot's product added to a stripe. -/
def payAcc : (t : Fin 3) → Vec F ⟨2, ![512, nc t]⟩ .f32 → Vec F S1x512x512 .fp8e5m2 → Vec F ⟨3, ![1, 512, nc t]⟩ .fp8e5m2 → Vec F ⟨2, ![512, nc t]⟩ .f32
  | 0 => k0_pay8
  | 1 => k0_pay9
  | 2 => k0_pay9

/-- The last product added to half a stripe, scaled and clipped. -/
def payFin (sc : F .f32) : (t : Fin 3) → (s : Bool) → Vec F ⟨2, ![512, hc t s]⟩ .f32 → Vec F S1x512x512 .fp8e5m2 → Vec F ⟨3, ![1, 512, hc t s]⟩ .fp8e5m2 → Vec F ⟨2, ![512, hc t s]⟩ .f32
  | 0, false => k0_pay28 sc
  | 0, true => k0_pay28 sc
  | 1, false => k0_pay28 sc
  | 1, true => k0_pay34 sc
  | 2, false => k0_pay28 sc
  | 2, true => k0_pay34 sc

/-- A stripe of the weight as the machine stores it. -/
def payCast : (t : Fin 3) → Vec F ⟨2, ![512, nc t]⟩ .f32 → Vec F ⟨2, ![512, nc t]⟩ .fp8e5m2
  | 0 => k0_pay1
  | 1 => k0_pay2
  | 2 => k0_pay2

theorem pos_col (t : Fin 3) : 0 < (⟨2, ![512, nc t]⟩ : Shape).numel := by revert t; decide
theorem pos_slot (t : Fin 3) : 0 < (⟨3, ![1, 512, nc t]⟩ : Shape).numel := by revert t; decide
theorem pos_hcol (t : Fin 3) (s : Bool) : 0 < (⟨2, ![512, hc t s]⟩ : Shape).numel := by revert t s; decide
theorem pos_half (t : Fin 3) (s : Bool) : 0 < (⟨3, ![1, 512, hc t s]⟩ : Shape).numel := by revert t s; decide

/-- What a step does on device `d0`, the scale being `sc`. -/
def Step.prog (d0 : Dev nD) (sc : F .f32) : Step → KProg F PUnit
  | .send e => Prog.lift (.enqueueDma (src d0 e) (.remote (Dev.tc (⟨nbrW d0 (mask e), nbrW_lt d0 e⟩ : Dev nD)) (dst e) (.dma (sendSem e))) (.dma (recvSem e))
      (src_wordExact d0 e) (dst_wordExact e) ⟨⟨rfl, Or.inl rfl⟩, trivial⟩)
  | .recv e => Prog.lift (.waitDma2 (recvSem e) (dst e) (dst e) (dst_wordExact e) (dst_wordExact e))
  | .done e => Prog.lift (.waitDma2 (sendSem e) (dst e) (src d0 e) (dst_wordExact e) (src_wordExact d0 e))
  | .acc t m => do
    let a ← Prog.lift (.load (Memref.whole cc0_stg3_0) (rCol t).toLoadRect (View.loadsAt_vmem (pos_col t)))
    let b ← Prog.lift (.load (Memref.whole cc0_scratch0) (rXg m.succ.castSucc).toLoadRect (View.loadsAt_vmem h_S1x512x512))
    let w ← Prog.lift (.load (wb t) (rSlot t m.castSucc).toLoadRect (View.loadsAt_vmem (pos_slot t)))
    let _ ← Prog.lift (.load (Memref.whole cc0_stg3_0) (rCol t).toLoadRect (View.loadsAt_vmem (pos_col t)))
    Prog.lift (.store (Memref.whole cc0_stg3_0) (rCol t) (payAcc t a b w) Finset.univ (View.stores_vmem_bits_univ (pos_col t) rfl) (.inl rfl))
  | .fin t s => do
    let a ← Prog.lift (.load (Memref.whole cc0_stg3_0) (rHcol t s).toLoadRect (View.loadsAt_vmem (pos_hcol t s)))
    let b ← Prog.lift (.load (Memref.whole cc0_scratch0) (rXg 7).toLoadRect (View.loadsAt_vmem h_S1x512x512))
    let w ← Prog.lift (.load (wb t) (rHalf t 6 s).toLoadRect (View.loadsAt_vmem (pos_half t s)))
    let _ ← Prog.lift (.load (Memref.whole cc0_stg3_0) (rHcol t s).toLoadRect (View.loadsAt_vmem (pos_hcol t s)))
    Prog.lift (.store (Memref.whole cc0_stg3_0) (rHcol t s) (payFin sc t s a b w) Finset.univ (View.stores_vmem_bits_univ (pos_hcol t s) rfl) (.inl rfl))

/-- A list of steps, then the rest. -/
def steps (d0 : Dev nD) (sc : F .f32) : List Step → KProg F PUnit → KProg F PUnit
  | [], k => k
  | i :: l, k => i.prog d0 sc >>= fun _ => steps d0 sc l k

/-- The staging buffer's columns and the weight columns of a stripe. -/
abbrev stgM (t : Fin 3) : Memref sig .tc .vmem ⟨2, ![512, nc t]⟩ .f32 := (Memref.whole cc0_scratch1).slice (rStg t) (fun _ => rfl)
abbrev inM (t : Fin 3) : Memref sig .tc .hbm ⟨2, ![512, nc t]⟩ .f32 := (Memref.whole main_arg1).slice (rCol t) (fun _ => rfl)

/-- Start staging a stripe of the weight, -/
def stage (t : Fin 3) : KProg F PUnit :=
  Prog.lift (.enqueueDma (inM t) (.here (stgM t)) (.dma cc0_scratch6.sem) (View.wordExact_bits rfl) (View.wordExact_bits rfl) ⟨Or.inl rfl, trivial⟩)
/-- wait for it, -/
def staged (t : Fin 3) : KProg F PUnit :=
  Prog.lift (.waitDma2 cc0_scratch6.sem (inM t) (stgM t) (View.wordExact_bits rfl) (View.wordExact_bits rfl))
/-- and store it at the machine's width. -/
def castIn (t : Fin 3) : KProg F PUnit := do
  let a ← Prog.lift (.load (Memref.whole cc0_scratch1) (rStg t).toLoadRect (View.loadsAt_vmem (pos_col t)))
  let _ ← Prog.lift (.load (Memref.whole cc0_scratch2) (rCol t).toLoadRect (View.loadsAt_vmem (pos_col t)))
  Prog.lift (.store (Memref.whole cc0_scratch2) (rCol t) (payCast t a) Finset.univ
    (View.stores_vmem (pos_col t) ((Memref.isWhole_whole cc0_scratch2).storeExact_slice rfl _ (pr_col t)) (fun _ => rfl)) (.inl rfl))

/-- The device's own row block into slot 0, and the first product over the whole output. -/
def first (d0 : Dev nD) : KProg F PUnit := do
  let a ← Prog.lift (.load (Memref.whole cc0_stg0_0) (Rect.unit (s := S4096x512) (k0_off2 d0) S512x512.size (k0_off2_inb d0)).toLoadRect (View.loadsAt_vmem h_S512x512))
  let _ ← Prog.lift (.load (Memref.whole cc0_scratch0) (rXg 0).toLoadRect (View.loadsAt_vmem h_S1x512x512))
  Prog.lift (.store (Memref.whole cc0_scratch0) (rXg 0) (k0_pay5 a) Finset.univ
    (View.stores_vmem h_S1x512x512 ((Memref.isWhole_whole cc0_scratch0).storeExact_slice rfl _ packedfp8e5m2_S8x512x512_S1x512x512_0_0_0) (fun _ => rfl)) (.inl rfl))
  let b ← Prog.lift (.load (Memref.whole cc0_scratch0) (rXg 0).toLoadRect (View.loadsAt_vmem h_S1x512x512))
  let w ← Prog.lift (.load (Memref.whole cc0_scratch2) (Rect.unit (s := S512x8192) ![0, 0] S512x8192.size inb_S512x8192_S512x8192_0_0).toLoadRect (View.loadsAt_vmem h_S512x8192))
  let _ ← Prog.lift (.load (Memref.whole cc0_stg3_0) (Rect.unit (s := S512x8192) ![0, 0] S512x8192.size inb_S512x8192_S512x8192_0_0).toLoadRect (View.loadsAt_vmem h_S512x8192))
  Prog.lift (.store (Memref.whole cc0_stg3_0) (Rect.unit (s := S512x8192) ![0, 0] S512x8192.size inb_S512x8192_S512x8192_0_0) (k0_pay6 b w) Finset.univ (View.stores_vmem_bits_univ h_S512x8192 rfl) (.inl rfl))

/-- The barrier's semaphore. -/
abbrev barSem : Sem sig := sig.barrier 0 rfl

/-- The entry: the first stripe staged, the seven peers told that this device's landing buffers may be written, the
    first stripe stored, and the seven peers' word awaited. -/
def entry (d0 : Dev nD) : KProg F PUnit := do
  stage 0
  semSignalWord (⟨k0_dev1 d0, k0_dev1_lt d0⟩ : Dev nD) barSem 1#32
  semSignalWord (⟨k0_dev2 d0, k0_dev2_lt d0⟩ : Dev nD) barSem 1#32
  semSignalWord (⟨k0_dev3 d0, k0_dev3_lt d0⟩ : Dev nD) barSem 1#32
  semSignalWord (⟨k0_dev4 d0, k0_dev4_lt d0⟩ : Dev nD) barSem 1#32
  semSignalWord (⟨k0_dev5 d0, k0_dev5_lt d0⟩ : Dev nD) barSem 1#32
  semSignalWord (⟨k0_dev6 d0, k0_dev6_lt d0⟩ : Dev nD) barSem 1#32
  semSignalWord (⟨k0_dev7 d0, k0_dev7_lt d0⟩ : Dev nD) barSem 1#32
  staged 0
  castIn 0
  stage 1
  semWaitWord barSem 7#32

/-- The sends of a stripe of the device's own weight. -/
def rootSends (t : Fin 3) : List Step := [.send (.w t 0), .send (.w t 1), .send (.w t 3)]

/-- The sends between the first two stripes, -/
def sends1 : List Step := rootSends 0 ++ [.send (.x 0), .send (.x 1), .send (.x 3)]
/-- between the second and the third. -/
def sends2 : List Step := rootSends 1 ++ [.send (.x 2), .send (.x 4), .send (.x 5), .send (.x 6)]

/-- What a device forwards once stripe `t` of mask `m + 1` is here. -/
def kids : Fin 3 → Fin 6 → List Edge
  | 0, 1 => [.w 0 2] | 0, 3 => [.w 0 4, .w 0 5] | 0, 2 => [.v 0 false, .v 0 true]
  | 1, 0 => [.w 1 2, .w 1 4] | 1, 3 => [.w 1 5] | 1, 5 => [.v 1 false, .v 1 true]
  | 2, 0 => [.w 2 4] | 2, 1 => [.w 2 2, .w 2 5] | 2, 4 => [.v 2 false, .v 2 true]
  | _, _ => []

/-- A slot's turn for one stripe: wait, forward, (for the first stripe) wait for the row block, accumulate. -/
def turn (m : Fin 6) (t : Fin 3) : List Step :=
  .recv (.w t m) :: (kids t m).map .send ++ (match t with | 0 => [.recv (.x m.castSucc)] | _ => []) ++ [.acc t m]

/-- A half's turn. -/
def turnFin (t : Fin 3) (s : Bool) : List Step := [.recv (.v t s), .fin t s]

/-- The transfers in the order their sources are awaited. -/
def doneOrder : List Edge :=
  [.w 0 0, .w 0 1, .w 0 3, .x 0, .x 1, .x 3, .w 1 0, .w 1 1, .w 1 3, .x 2, .x 4, .x 5, .x 6, .w 2 0, .w 2 1, .w 2 3,
   .w 1 2, .w 1 4, .w 2 4, .w 0 2, .w 2 2, .w 2 5, .w 0 4, .w 0 5, .w 1 5, .v 0 false, .v 0 true, .v 2 false, .v 2 true, .v 1 false, .v 1 true]

/-- The kernel's main part. -/
def mainSteps : List Step :=
  ([0, 1, 3, 2, 4, 5] : List (Fin 6)).flatMap (fun m => ([0, 1, 2] : List (Fin 3)).flatMap (turn m))
  ++ .recv (.x 6) :: (([0, 1, 2] : List (Fin 3)).flatMap (turnFin · false) ++ ([0, 1, 2] : List (Fin 3)).flatMap (turnFin · true))
  ++ doneOrder.map .done

/-- The kernel body down to the first scale, on the device it runs on. -/
def bodyTo (d0 : Dev nD) (k : Elt F .f32 → KProg F PUnit) : KProg F PUnit := do
  entry d0
  steps d0 (Scalar.ofBits .f32 0) sends1 (do
    staged 1
    castIn 1
    stage 2
    steps d0 (Scalar.ofBits .f32 0) sends2 (do
      staged 2
      castIn 2
      steps d0 (Scalar.ofBits .f32 0) (rootSends 2) (do
        first d0
        let a ← smemLoad (Memref.whole cc0_stg1_0) (Rect.unit (s := S1) ![0] S1.size inb_S1_S1_0) numel1_S1 rfl
        k a)))

/-- The kernel body, on the device it runs on. -/
def body (d0 : Dev nD) : KProg F PUnit := bodyTo d0 fun a =>
  smemLoad (Memref.whole cc0_stg2_0) (Rect.unit (s := S1) ![0] S1.size inb_S1_S1_0) numel1_S1 rfl >>= fun b => steps d0 (k0_pay7 a b) mainSteps (pure ⟨⟩)

end Cert.KernelIdeal.Tree

end
-- ==== Proof.Mem.lean ====
/-
What the transfers carry, and how the buffers are cut.

Each device has a neighbour at every cube mask; masks undo themselves, so a transfer's receiver is its sender's
neighbour and the other way round. `got` says what a device receives by each transfer, in terms of all devices' `x` and
weights; `sent_eq` says each sender holds just that. A received stripe that is passed on is lent in shares: the device
keeps one, each child copy reads another.
-/
module

public import proofs.«01_k».proof.Proof.Program
public import Idealize.ShloMosaic.Lib.Memref
public import Idealize.ShloMosaic.Lib.Ring
public import Idealize.ShloMosaic.Lib.ValueLayout
public import Idealize.ShloMosaic.Lib.Tactic

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.ValueIdx

variable {F : FTy → Type} [FloatOps F]

/-! ## Neighbours -/

theorem nbrW_fin_lt : ∀ (c : Dev nD) (u : Fin 8), nbrW c (BitVec.ofNat 32 u) < nD := by decide +kernel

/-- The device at cube mask `u`. -/
def nbr (c : Dev nD) (u : Fin 8) : Dev nD := ⟨nbrW c (BitVec.ofNat 32 u), nbrW_fin_lt c u⟩

/-- The other end of a transfer: to whom `c` sends it, and from whom `c` receives it. -/
def peer (c : Dev nD) (e : Edge) : Dev nD := ⟨nbrW c (mask e), nbrW_lt c e⟩

theorem peer_peer : ∀ (c : Dev nD) (e : Edge), peer (peer c e) e = c := by decide +kernel
theorem peer_ne : ∀ (c : Dev nD) (e : Edge), peer c e ≠ c := by decide +kernel
theorem peer_x : ∀ (c : Dev nD) (u : Fin 7), peer c (.x u) = nbr c u.succ := by decide +kernel
/-- The sender of a root stripe is the device whose weight it is; -/
theorem nbr_root : ∀ (c : Dev nD) (t : Fin 3) (m : Fin 6), par t m = none → nbr (peer c (.w t m)) m.castSucc.succ = c := by decide +kernel
/-- a forwarded stripe stays that of the same device, -/
theorem nbr_par : ∀ (c : Dev nD) (t : Fin 3) (m p : Fin 6), par t m = some p → nbr (peer c (.w t m)) m.castSucc.succ = nbr c p.castSucc.succ := by
  decide +kernel
/-- and so does a half. -/
theorem nbr_half : ∀ (c : Dev nD) (t : Fin 3) (s : Bool), nbr (peer c (.v t s)) 7 = nbr c (parV t).castSucc.succ := by decide +kernel
theorem nbr_zero : ∀ c : Dev nD, nbr c 0 = c := by decide +kernel
theorem nbr_nbr : ∀ (c : Dev nD) (u : Fin 8), nbr (nbr c u) u = c := by decide +kernel
theorem nbr_inj : ∀ (c : Dev nD) (u v : Fin 8), nbr c u = nbr c v → u = v := by decide +kernel
theorem nbr_surj : ∀ (c d : Dev nD), ∃ u, nbr c u = d := by decide +kernel
/-- The row block a device sends is the receiver's. -/
theorem off1_eq : ∀ (c : Dev nD) (u : Fin 7), k0_off1 c (BitVec.ofNat 32 (1 + u.val)) = ![512 * (nbr c u.succ).val, 0] := by decide +kernel
theorem off2_eq : ∀ c : Dev nD, k0_off2 c = ![512 * c.val, 0] := by decide +kernel

theorem col_le : ∀ t : Fin 3, c0 t + nc t ≤ 8192 := by decide
theorem col_lt (t : Fin 3) (j : Fin (nc t)) : c0 t + j.val < 8192 :=
  Nat.lt_of_lt_of_le (Nat.add_lt_add_left j.isLt (c0 t)) (col_le t)
theorem row_lt (c : Dev nD) (r : Fin 512) : 512 * c.val + r.val < 4096 := by
  have h := r.isLt
  have h' : c.val < 8 := c.isLt
  omega

/-! ## What is received -/

section Contents

-- `x` on every device, and its weight at the machine's width.
variable (X : Dev nD → Vec F S4096x512 .fp8e5m2) (V : Dev nD → Vec F S512x8192 .fp8e5m2)

/-- What device `c` receives. -/
def got (c : Dev nD) : (e : Edge) → Vec F (shp e) .fp8e5m2
  | .x u => fun i => X (peer c (.x u)) ((rX (peer c (.x u)) u).idx i)
  | .w t m => fun i => V (nbr c m.castSucc.succ) ((rCol t).idx i)
  | .v t s => fun i => V (nbr c 7) ((rHcol t s).idx i)

/-- What device `c` sends: what its receiver gets. -/
def sent (c : Dev nD) (e : Edge) : Vec F (shp e) .fp8e5m2 := got X V (peer c e) e

theorem sent_x (c : Dev nD) (u : Fin 7) : sent X V c (.x u) = fun i => X c ((rX c u).idx i) := by
  have h : ∀ d, d = c → (fun i => X d ((rX d u).idx i)) = fun i => X c ((rX c u).idx i) := by rintro _ rfl; rfl
  exact h _ (peer_peer c (.x u))
theorem sent_root (c : Dev nD) (t : Fin 3) (m : Fin 6) (h : par t m = none) : sent X V c (.w t m) = fun i => V c ((rCol t).idx i) := by
  unfold sent got; simp only [nbr_root c t m h]; rfl
theorem sent_par (c : Dev nD) (t : Fin 3) (m p : Fin 6) (h : par t m = some p) : sent X V c (.w t m) = got X V c (.w t p) := by
  unfold sent got; simp only [nbr_par c t m p h]; rfl
theorem sent_half (c : Dev nD) (t : Fin 3) (s : Bool) :
    sent X V c (.v t s) = fun i => V (nbr c (parV t).castSucc.succ) ((rHcol t s).idx i) := by
  unfold sent got; simp only [nbr_half c t s]; rfl

end Contents

/-! ## Reading a slot

`land Y t` is the landing buffer of stripe `t` with the columns of `Y m` in slot `m`; each transfer's end reads a part of
one `Y m`. -/

section Land

variable (Y : Fin 7 → Vec F S512x8192 .fp8e5m2)

def land (t : Fin 3) : Vec F ⟨3, ![7, 512, nc t]⟩ .fp8e5m2 := fun i =>
  Y (i 0) (ix2 (i 1 : Fin 512) (⟨c0 t + (i 2).val, col_lt t (i 2)⟩ : Fin 8192))

/-- The same as contents of the buffer itself. -/
def landB : (t : Fin 3) → (wb t).view.ty.Contents (Elt F)
  | 0 => land Y 0
  | 1 => land Y 1
  | 2 => land Y 2

theorem landB_read : ∀ t, (wb t).view.read (Elt F) (landB Y t) = land Y t
  | 0 => rfl
  | 1 => rfl
  | 2 => rfl

theorem land_at (t : Fin 3) (i : (⟨3, ![7, 512, nc t]⟩ : Shape).Idx) (m : Fin 7) (j : S512x8192.Idx)
    (h0 : (i 0).val = m.val) (h1 : (i 1).val = (j 0).val) (h2 : c0 t + (i 2).val = (j 1).val) : land Y t i = Y m j := by
  have e0 : (i 0 : Fin 7) = m := Fin.ext h0
  have e1 : (ix2 (i 1 : Fin 512) (⟨c0 t + (i 2).val, col_lt t (i 2)⟩ : Fin 8192) : S512x8192.Idx) = j := by
    funext a
    match a with
    | 0 => exact Fin.ext h1
    | 1 => exact Fin.ext h2
  unfold land
  rw [e1]
  exact congrArg (fun k => Y k j) e0

theorem slot_read (t : Fin 3) (m : Fin 7) :
    (slotM t m).view.read (Elt F) (landB Y t) = fun i => Y m ((rCol t).idx i) := by
  funext i
  show (wb t).view.read (Elt F) (landB Y t) ((rSlot t m).idx (Shape.reshapeEquiv _ i)) = _
  rw [landB_read]
  obtain ⟨a, b, rfl⟩ : ∃ a b, i = ix2 a b := ⟨i 0, i 1, eq_ix2 i⟩
  rw [reshapeEquiv_ix2_1ab]
  refine land_at Y t _ m _ ?_ ?_ ?_ <;> simp [LoadRect.idx_apply] <;> rfl

theorem half_read (t : Fin 3) (m : Fin 7) (s : Bool) :
    (halfM t m s).view.read (Elt F) (landB Y t) = fun i => Y m ((rHcol t s).idx i) := by
  funext i
  show (wb t).view.read (Elt F) (landB Y t) ((rHalf t m s).idx (Shape.reshapeEquiv _ i)) = _
  rw [landB_read]
  obtain ⟨a, b, rfl⟩ : ∃ a b, i = ix2 a b := ⟨i 0, i 1, eq_ix2 i⟩
  rw [reshapeEquiv_ix2_1ab]
  refine land_at Y t _ m _ ?_ ?_ ?_ <;> simp [LoadRect.idx_apply, Nat.add_assoc] <;> rfl

end Land

/-! ## Holding a part of a buffer -/

section Hold

variable {Ix : Type} [DecidableEq Ix] {Name : Type} [DecidableEq Name] {U : Type} [URA U] {Lvl : Type}
local notation "𝕄" => MT nD τ sig Ix (Elt F) Name U Lvl

variable (c : Dev nD) {sp : Space} {sh : Shape} {e : EltTy} (m : Memref sig .tc sp sh e) (q : PosShare TreeShare)

/-- The elements a memref places, at any contents. -/
def room : sProp 𝕄 := iprop(∃ f, m.view.loc (c : Thread nD τ) ↦[m.view.set]{fullShare} f)

instance room_storable : BI.Storable (upEmb : UEmb _ 𝕄) (room (F := F) c m) := by
  unfold room; infer_instance

/-- Holding what reads `X` through a memref is holding it at any contents that read so. -/
theorem owns_eq {X : Vec F sh e} {f : m.view.ty.Contents (Elt F)} (h : m.view.read (Elt F) f = X) :
    (ownsTc c m q X : sProp 𝕄) = (m.view.loc (c : Thread nD τ) ↦[m.view.set]{q} f) := by
  subst h
  refine BI.equiv_iff.mp ⟨?_, owns_intro (c : Thread nD τ) m q f⟩
  show ownsTc c m q _ ⊢ _
  unfold ownsTc owns
  iintro ⟨%g, %hg, H⟩
  have e : (m.view.loc (c : Thread nD τ) ↦[m.view.set]{q} g : sProp 𝕄) = (m.view.loc (c : Thread nD τ) ↦[m.view.set]{q} f) :=
    pointsTo_congr fun i hi => by
      rw [View.set, Finset.mem_map] at hi
      obtain ⟨x, -, rfl⟩ := hi
      exact (cast_inj _).mp (congrFun hg x)
  rw [← e]
  iexact H

/-- What a memref reads is held in two shares. -/
theorem owns_share (X : Vec F sh e) :
    (ownsTc c m q X : sProp 𝕄) = iprop(ownsTc c m q.left X ∗ ownsTc c m q.right X) := by
  refine BI.equiv_iff.mp ⟨?_, ?_⟩
  · show ownsTc c m q X ⊢ _
    unfold ownsTc owns
    iintro ⟨%f, %hf, H⟩
    ihave H' := (pointsTo_share (PosShare.mem_left_op_right q)).1 $$ H
    icases H' with ⟨H1, H2⟩
    isplitl [H1]
    · iexists f; isplitr; · ipureintro; exact hf
      iexact H1
    · iexists f; isplitr; · ipureintro; exact hf
      iexact H2
  · show iprop(ownsTc c m q.left X ∗ ownsTc c m q.right X) ⊢ _
    iintro ⟨H1, H2⟩
    ihave H1' := (show (ownsTc c m q.left X : sProp 𝕄) ⊢ iprop(∃ f, ⌜m.view.read (Elt F) f = X⌝ ∗ (m.view.loc (c : Thread nD τ) ↦[m.view.set]{q.left} f)) from .rfl) $$ H1
    icases H1' with ⟨%f, %hf, H1⟩
    ihave H2' := (Entails.of_eq (owns_eq c m q.right hf)) $$ H2
    iapply (Entails.of_eq (owns_eq c m q hf).symm)
    iapply (pointsTo_share (PosShare.mem_left_op_right q)).2
    isplitl [H1]; · iexact H1
    iexact H2'

theorem owns_room (X : Vec F sh e) : (ownsTc c m fullShare X : sProp 𝕄) ⊢ room c m := by
  unfold ownsTc owns room
  iintro ⟨%f, %hf, H⟩
  iexists f
  iexact H

section Cut

variable {T : Type} [Fintype T] [DecidableEq T] (r : T → Rect sh)
  (hd : ∀ t t', t ≠ t' → Disjoint (r t).set (r t').set)
  (hcov : ∀ i, ∃ t, i ∈ (r t).set)
include hd hcov

theorem cut_set : (Finset.univ : Finset T).biUnion (fun t => (m.view.slice (r t)).set) = m.view.set := by
  ext i; constructor
  · intro hi
    obtain ⟨t, -, hi⟩ := Finset.mem_biUnion.mp hi
    exact View.set_slice_subset _ _ hi
  · intro hi
    rw [View.set, Finset.mem_map] at hi
    obtain ⟨x, -, rfl⟩ := hi
    obtain ⟨t, hx⟩ := hcov x
    exact Finset.mem_biUnion.mpr ⟨t, Finset.mem_univ _, by rw [View.set_slice]; exact Finset.mem_map_of_mem _ hx⟩

theorem cut_disjoint (t t' : T) (h : t ≠ t') : Disjoint (m.view.slice (r t)).set (m.view.slice (r t')).set := by
  rw [View.set_slice, View.set_slice]; exact (Finset.disjoint_map _).mpr (hd t t' h)

/-- A memref's elements are those of the rectangles of a disjoint cover; -/
theorem cut (f : m.view.ty.Contents (Elt F)) :
    (m.view.loc (c : Thread nD τ) ↦[m.view.set]{q} f : sProp 𝕄)
      = bigSep Finset.univ fun t => m.view.loc (c : Thread nD τ) ↦[(m.view.slice (r t)).set]{q} f := by
  rw [← cut_set m r hd hcov]
  exact pointsTo_biUnion _ _ fun t _ t' _ h => cut_disjoint m r hd hcov t t' h

omit [DecidableEq T] in
/-- and these join back, whatever each holds. -/
theorem uncut (f₀ : Buf (Elt F) (m.view.loc (c : Thread nD τ))) :
    bigSep Finset.univ (fun t => iprop(∃ f : Buf (Elt F) (m.view.loc (c : Thread nD τ)), m.view.loc (c : Thread nD τ) ↦[(m.view.slice (r t)).set]{q} f))
      ⊢ (iprop(∃ f : Buf (Elt F) (m.view.loc (c : Thread nD τ)), m.view.loc (c : Thread nD τ) ↦[m.view.set]{q} f) : sProp 𝕄) := by
  classical
  exact Ring.pointsTo_sub_blocks_join_exists (ℓ := m.view.loc (c : Thread nD τ)) (fun t => (m.view.slice (r t)).set)
    (fun t t' h => cut_disjoint m r hd hcov t t' h) m.view.set (cut_set m r hd hcov) f₀

end Cut

end Hold

end Cert.KernelIdeal.Tree

end
-- ==== Proof.Lend.lean ====
/-
How the buffers are cut into the transfers' ends, and how a received stripe is lent to the copies that pass it on.
-/
module

public import proofs.«01_k».proof.Proof.Mem
public import Idealize.ShloMosaic.Lib.Ring.Trips
public import Idealize.ShloMosaic.Lib.Pipeline.BigSepL

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.ValueIdx

variable {F : FTy → Type} [FloatOps F]

/-! ## The cuts -/

/-- The pieces of a landing buffer: six slots, and the last in halves. -/
abbrev wbR (t : Fin 3) : Fin 6 ⊕ Bool → Rect ⟨3, ![7, 512, nc t]⟩
  | .inl m => rSlot t m.castSucc
  | .inr s => rHalf t 6 s

theorem half_hi : ∀ t : Fin 3, 1408 + hc t true = nc t := by decide

theorem wbR_disjoint (t : Fin 3) : ∀ a b, a ≠ b → Disjoint (wbR t a).set (wbR t b).set := by
  rintro (m | s) (m' | s') h
  · have h' : m.val ≠ m'.val := fun e => h (congrArg _ (Fin.ext e))
    exact Rect.unit_disjoint 0 (show m.val + 1 ≤ m'.val ∨ m'.val + 1 ≤ m.val by omega)
  · exact Rect.unit_disjoint 0 (show m.val + 1 ≤ 6 ∨ 6 + 1 ≤ m.val by have := m.isLt; omega)
  · exact Rect.unit_disjoint 0 (show 6 + 1 ≤ m'.val ∨ m'.val + 1 ≤ 6 by have := m'.isLt; omega)
  · cases s <;> cases s'
    · exact absurd rfl h
    · exact Rect.unit_disjoint 2 (show 0 + 1408 ≤ 1408 ∨ _ from .inl (Nat.le_refl _))
    · exact Rect.unit_disjoint 2 (show _ ∨ 0 + 1408 ≤ 1408 from .inr (Nat.le_refl _))
    · exact absurd rfl h

theorem wbR_cover (t : Fin 3) : ∀ i, ∃ a, i ∈ (wbR t a).set := by
  intro i
  have h0 : (i 0).val < 7 := (i 0).isLt
  have h1 : (i 1).val < 512 := (i 1).isLt
  have h2 : (i 2).val < nc t := (i 2).isLt
  have hh := half_hi t
  by_cases hm : (i 0).val < 6
  · refine ⟨.inl ⟨(i 0).val, hm⟩, Rect.mem_set_unit.mpr fun a => ?_⟩
    match a with
    | 0 => exact ⟨Nat.le_refl _, Nat.lt_succ_self _⟩
    | 1 => exact ⟨Nat.zero_le _, by show (i 1).val < 0 + 512; omega⟩
    | 2 => exact ⟨Nat.zero_le _, by show (i 2).val < 0 + nc t; omega⟩
  · by_cases hs : (i 2).val < 1408
    · refine ⟨.inr false, Rect.mem_set_unit.mpr fun a => ?_⟩
      match a with
      | 0 => exact ⟨by show 6 ≤ (i 0).val; omega, by show (i 0).val < 6 + 1; omega⟩
      | 1 => exact ⟨Nat.zero_le _, by show (i 1).val < 0 + 512; omega⟩
      | 2 => exact ⟨Nat.zero_le _, by show (i 2).val < 0 + 1408; omega⟩
    · refine ⟨.inr true, Rect.mem_set_unit.mpr fun a => ?_⟩
      match a with
      | 0 => exact ⟨by show 6 ≤ (i 0).val; omega, by show (i 0).val < 6 + 1; omega⟩
      | 1 => exact ⟨Nat.zero_le _, by show (i 1).val < 0 + 512; omega⟩
      | 2 => exact ⟨by show 1408 ≤ (i 2).val; omega, by show (i 2).val < 1408 + hc t true; omega⟩

theorem xgR_disjoint : ∀ a b : Fin 8, a ≠ b → Disjoint (rXg a).set (rXg b).set := fun a b h =>
  Rect.unit_disjoint 0 (show a.val + 1 ≤ b.val ∨ b.val + 1 ≤ a.val by have : a.val ≠ b.val := fun e => h (Fin.ext e); omega)

theorem xgR_cover : ∀ i, ∃ a : Fin 8, i ∈ (rXg a).set := fun i =>
  ⟨i 0, Rect.mem_set_unit.mpr fun a => match a with
    | 0 => ⟨Nat.le_refl _, Nat.lt_succ_self _⟩
    | 1 => ⟨Nat.zero_le _, by show (i 1).val < 0 + 512; have : (i 1).val < 512 := (i 1).isLt; omega⟩
    | 2 => ⟨Nat.zero_le _, by show (i 2).val < 0 + 512; have : (i 2).val < 512 := (i 2).isLt; omega⟩⟩

/-- The device's own row block of `x`. -/
abbrev rOwn (c : Dev nD) : Rect S4096x512 := Rect.unit (s := S4096x512) (k0_off2 c) S512x512.size (k0_off2_inb c)

/-- The row blocks of `x`, by the cube mask of the device each is for. -/
abbrev xR (c : Dev nD) : Option (Fin 7) → Rect S4096x512
  | none => rOwn c
  | some u => rX c u

/-- The device a row block is for. -/
def xTo (c : Dev nD) : Option (Fin 7) → Dev nD
  | none => c
  | some u => nbr c u.succ

theorem xTo_inj : ∀ (c : Dev nD) (a b : Option (Fin 7)), xTo c a = xTo c b → a = b := by decide +kernel
theorem xTo_surj : ∀ (c d : Dev nD), ∃ a, xTo c a = d := by decide +kernel

theorem xR_mem (c : Dev nD) (a : Option (Fin 7)) (i : S4096x512.Idx) :
    i ∈ (xR c a).set ↔ 512 * (xTo c a).val ≤ (i 0).val ∧ (i 0).val < 512 * (xTo c a).val + 512 := by
  have h1 : (i 1).val < 512 := (i 1).isLt
  have key : ∀ (off : Fin 2 → Nat) (h) (d : Nat), off = ![512 * d, 0] →
      (i ∈ (Rect.unit (s := S4096x512) off S512x512.size h).set ↔ 512 * d ≤ (i 0).val ∧ (i 0).val < 512 * d + 512) := by
    rintro _ h d rfl
    rw [Rect.mem_set_unit]
    constructor
    · intro H; exact H 0
    · intro H a
      match a with
      | 0 => exact H
      | 1 => exact ⟨Nat.zero_le _, by show (i 1).val < 0 + 512; omega⟩
  cases a with
  | none => exact key _ _ _ (off2_eq c)
  | some u => exact key _ _ _ (off1_eq c u)

theorem xR_disjoint (c : Dev nD) : ∀ a b, a ≠ b → Disjoint (xR c a).set (xR c b).set := by
  intro a b h
  rw [Finset.disjoint_left]
  intro i ha hb
  have ha := (xR_mem c a i).mp ha
  have hb := (xR_mem c b i).mp hb
  exact h (xTo_inj c a b (Fin.ext (by omega)))

theorem xR_cover (c : Dev nD) : ∀ i, ∃ a, i ∈ (xR c a).set := by
  intro i
  have h0 : (i 0).val < 4096 := (i 0).isLt
  obtain ⟨a, ha⟩ := xTo_surj c (⟨(i 0).val / 512, by show _ < 8; omega⟩ : Dev nD)
  refine ⟨a, (xR_mem c a i).mpr ?_⟩
  rw [ha]
  show 512 * ((i 0).val / 512) ≤ (i 0).val ∧ (i 0).val < 512 * ((i 0).val / 512) + 512
  omega

theorem colR_disjoint : ∀ a b : Fin 3, a ≠ b → Disjoint (rCol a).set (rCol b).set := fun a b h =>
  Rect.unit_disjoint 1 (show c0 a + nc a ≤ c0 b ∨ c0 b + nc b ≤ c0 a by revert a b; decide)

theorem colR_cover : ∀ i, ∃ a : Fin 3, i ∈ (rCol a).set := by
  intro i
  have h0 : (i 0).val < 512 := (i 0).isLt
  have h1 : (i 1).val < 8192 := (i 1).isLt
  have key : ∀ t : Fin 3, c0 t ≤ (i 1).val → (i 1).val < c0 t + nc t → i ∈ (rCol t).set := fun t ha hb =>
    Rect.mem_set_unit.mpr fun a => match a with
      | 0 => ⟨Nat.zero_le _, by show (i 0).val < 0 + 512; omega⟩
      | 1 => ⟨ha, hb⟩
  by_cases ha : (i 1).val < 2816
  · exact ⟨0, key 0 (Nat.zero_le _) (by show _ < 0 + 2816; omega)⟩
  · by_cases hb : (i 1).val < 5504
    · exact ⟨1, key 1 (by show 2816 ≤ _; omega) (by show _ < 2816 + 2688; omega)⟩
    · exact ⟨2, key 2 (by show 5504 ≤ _; omega) (by show _ < 5504 + 2688; omega)⟩

/-- The halves of a slot cover it. -/
theorem slot_halves (t : Fin 3) (m : Fin 7) : (rSlot t m).set = (rHalf t m false).set ∪ (rHalf t m true).set := by
  ext i
  have hh := half_hi t
  rw [Finset.mem_union, Rect.mem_set_unit, Rect.mem_set_unit, Rect.mem_set_unit]
  have e : ∀ (o n : Nat), (∀ a : Fin 3, (![m.val, 0, o] : Fin 3 → Nat) a ≤ (i a).val ∧ (i a).val < (![m.val, 0, o] : Fin 3 → Nat) a + (![1, 512, n] : Fin 3 → Nat) a)
      ↔ (m.val ≤ (i 0).val ∧ (i 0).val < m.val + 1) ∧ (0 ≤ (i 1).val ∧ (i 1).val < 0 + 512) ∧ (o ≤ (i 2).val ∧ (i 2).val < o + n) := by
    intro o n
    constructor
    · intro H; exact ⟨H 0, H 1, H 2⟩
    · rintro ⟨h0, h1, h2⟩ a
      match a with
      | 0 => exact h0
      | 1 => exact h1
      | 2 => exact h2
  refine (e 0 (nc t)).trans (Iff.trans ?_ (or_congr (e 0 1408) (e 1408 (hc t true))).symm)
  have h2 : (i 2).val < nc t := (i 2).isLt
  omega

theorem halves_disjoint (t : Fin 3) (m : Fin 7) : Disjoint (rHalf t m false).set (rHalf t m true).set :=
  Rect.unit_disjoint 2 (show 0 + 1408 ≤ 1408 ∨ _ from .inl (Nat.le_refl _))

/-! ## Shares of what is passed on -/

/-- The share a device keeps of a received stripe, -/
def keepQ : Edge → PosShare TreeShare
  | .w 0 1 => fullShare.right | .w 0 3 => fullShare.right.right | .w 0 2 => fullShare.right
  | .w 1 0 => fullShare.right.right | .w 1 3 => fullShare.right | .w 1 5 => fullShare.right
  | .w 2 0 => fullShare.right | .w 2 1 => fullShare.right.right | .w 2 4 => fullShare.right
  | _ => fullShare

/-- and the share a transfer reads its source at. -/
def sendQ : Edge → PosShare TreeShare
  | .x _ => fullShare
  | .w 0 5 => fullShare.right.left
  | .w 1 4 => fullShare.right.left
  | .w 2 5 => fullShare.right.left
  | .w _ 0 => Ring.shares3 fullShare.right 0
  | .w _ 1 => Ring.shares3 fullShare.right 1
  | .w _ 3 => Ring.shares3 fullShare.right 2
  | .w _ _ => fullShare.left
  | .v _ _ => fullShare.left

section Hold

variable {Ix : Type} [DecidableEq Ix] {Name : Type} [DecidableEq Name] {U : Type} [URA U] {Lvl : Type}
local notation "𝕄" => MT nD τ sig Ix (Elt F) Name U Lvl

variable (X : Dev nD → Vec F S4096x512 .fp8e5m2) (V : Dev nD → Vec F S512x8192 .fp8e5m2) (c : Dev nD)

/-- A transfer's source, held at its share, with what the transfer carries; -/
def Src (e : Edge) : sProp 𝕄 := ownsTc c (src c e) (sendQ e) (sent X V c e)
/-- its landing, received, -/
def Dst (e : Edge) : sProp 𝕄 := ownsTc c (dst e) fullShare (got X V c e)
/-- and what the device keeps of it beside what it passes on. -/
def Keep (e : Edge) : sProp 𝕄 := ownsTc c (dst e) (keepQ e) (got X V c e)

/-- What a device passes on of a transfer it received. -/
def kidsOf : Edge → List Edge
  | .w t m => kids t m
  | _ => []

instance (e : Edge) : BI.Storable (upEmb : UEmb _ 𝕄) (Src X V c e) := by unfold Src; infer_instance
instance (e : Edge) : BI.Storable (upEmb : UEmb _ 𝕄) (Dst X V c e) := by unfold Dst; infer_instance

theorem sep_comm_eq (P Q : sProp 𝕄) : iprop(P ∗ Q) = iprop(Q ∗ P) := by
  have h : ∀ P Q : sProp 𝕄, iprop(P ∗ Q) ⊢ iprop(Q ∗ P) := fun P Q => by
    iintro ⟨H1, H2⟩; isplitl [H2]; · iexact H2
    iexact H1
  exact BI.equiv_iff.mp ⟨h P Q, h Q P⟩

theorem sep_rot (P Q R : sProp 𝕄) : iprop(P ∗ Q ∗ R) = iprop(R ∗ P ∗ Q) := by
  have h1 : iprop(P ∗ Q ∗ R) ⊢ iprop(R ∗ P ∗ Q) := by
    iintro ⟨H1, H2, H3⟩; isplitl [H3]; · iexact H3
    isplitl [H1]; · iexact H1
    iexact H2
  have h2 : iprop(R ∗ P ∗ Q) ⊢ iprop(P ∗ Q ∗ R) := by
    iintro ⟨H3, H1, H2⟩; isplitl [H1]; · iexact H1
    isplitl [H2]; · iexact H2
    iexact H3
  exact BI.equiv_iff.mp ⟨h1, h2⟩

theorem kid_eq (q : PosShare TreeShare) {t : Fin 3} {m m' : Fin 6} (h : par t m' = some m) :
    (ownsTc c (dst (.w t m)) q (got X V c (.w t m)) : sProp 𝕄) = ownsTc c (src c (.w t m')) q (sent X V c (.w t m')) := by
  have e : src c (.w t m') = slotM t m.castSucc := by
    show (match par t m' with | none => colM t | some p => slotM t p.castSucc : Memref sig .tc .vmem _ .fp8e5m2) = _
    rw [h]
  rw [sent_par X V c t m' m h, e]
  rfl

theorem halves_eq (q : PosShare TreeShare) (t : Fin 3) (m : Fin 7) (Y : Vec F S512x8192 .fp8e5m2) :
    (ownsTc c (slotM t m) q (fun i => Y ((rCol t).idx i)) : sProp 𝕄)
      = iprop(ownsTc c (halfM t m false) q (fun i => Y ((rHcol t false).idx i)) ∗ ownsTc c (halfM t m true) q (fun i => Y ((rHcol t true).idx i))) := by
  refine (owns_eq c (slotM t m) q (slot_read (fun _ => Y) t m)).trans (Eq.trans ?_ (congrArg₂ (fun P Q : sProp 𝕄 => iprop(P ∗ Q))
    (owns_eq c (halfM t m false) q (half_read (fun _ => Y) t m false)) (owns_eq c (halfM t m true) q (half_read (fun _ => Y) t m true))).symm)
  have hs : (slotM t m).view.set = (halfM t m false).view.set ∪ (halfM t m true).view.set := by
    rw [View.set_reshape, View.set_reshape, View.set_reshape]
    show ((wb t).view.slice (rSlot t m)).set = ((wb t).view.slice (rHalf t m false)).set ∪ ((wb t).view.slice (rHalf t m true)).set
    rw [View.set_slice, View.set_slice, View.set_slice, slot_halves, Finset.map_union]
  have hd : Disjoint (halfM t m false).view.set (halfM t m true).view.set := by
    rw [View.set_reshape, View.set_reshape]
    show Disjoint ((wb t).view.slice (rHalf t m false)).set ((wb t).view.slice (rHalf t m true)).set
    rw [View.set_slice, View.set_slice]
    exact (Finset.disjoint_map _).mpr (halves_disjoint t m)
  rw [hs]
  have h := pointsTo_union (ℓ := (wb t).view.loc (c : Thread nD τ)) (I := (halfM t m false).view.set) (J := (halfM t m true).view.set)
    (q := q) (f := landB (fun _ => Y) t) hd (Ix := Ix) (Name := Name) (U := U) (Lvl := Lvl)
  exact BI.equiv_iff.mp ⟨h.1, h.2⟩

theorem lend_none {t : Fin 3} {m : Fin 6} (hk : kids t m = []) (hq : keepQ (.w t m) = fullShare) :
    (Dst X V c (.w t m) : sProp 𝕄) = iprop(Keep X V c (.w t m) ∗ bigSepL (kids t m) (Src X V c)) := by
  unfold Keep Dst
  rw [hk, hq]
  exact (BI.equiv_iff.mp sep_emp).symm

theorem lend_one {t : Fin 3} {m : Fin 6} (m' : Fin 6) (h : par t m' = some m) (hk : kids t m = [.w t m'])
    (hq : keepQ (.w t m) = fullShare.right) (hs : sendQ (.w t m') = fullShare.left) :
    (Dst X V c (.w t m) : sProp 𝕄) = iprop(Keep X V c (.w t m) ∗ bigSepL (kids t m) (Src X V c)) := by
  unfold Keep Dst
  rw [hk, hq, bigSepL_singleton, Src, hs, ← kid_eq X V c _ h, owns_share]
  exact sep_comm_eq _ _

theorem lend_two {t : Fin 3} {m : Fin 6} (m' m'' : Fin 6) (h' : par t m' = some m) (h'' : par t m'' = some m) (hk : kids t m = [.w t m', .w t m''])
    (hq : keepQ (.w t m) = fullShare.right.right) (hs' : sendQ (.w t m') = fullShare.left) (hs'' : sendQ (.w t m'') = fullShare.right.left) :
    (Dst X V c (.w t m) : sProp 𝕄) = iprop(Keep X V c (.w t m) ∗ bigSepL (kids t m) (Src X V c)) := by
  unfold Keep Dst
  rw [hk, hq, bigSepL_cons', bigSepL_singleton, Src, Src, hs', hs'', ← kid_eq X V c _ h', ← kid_eq X V c _ h'', owns_share,
    owns_share c _ fullShare.right]
  exact sep_rot _ _ _

theorem lend_halves {t : Fin 3} (hk : kids t (parV t) = [.v t false, .v t true]) (hq : keepQ (.w t (parV t)) = fullShare.right) :
    (Dst X V c (.w t (parV t)) : sProp 𝕄) = iprop(Keep X V c (.w t (parV t)) ∗ bigSepL (kids t (parV t)) (Src X V c)) := by
  unfold Keep Dst
  rw [hk, hq, bigSepL_cons', bigSepL_singleton, Src, Src, sent_half, sent_half, owns_share]
  rw [show (ownsTc c (dst (.w t (parV t))) fullShare.left (got X V c (.w t (parV t))) : sProp 𝕄) = _ from halves_eq c fullShare.left t (parV t).castSucc (V (nbr c (parV t).castSucc.succ))]
  exact sep_comm_eq _ _

/-- A received transfer is what the device keeps of it and the sources of what it passes on. -/
theorem lend : ∀ e, (Dst X V c e : sProp 𝕄) = iprop(Keep X V c e ∗ bigSepL (kidsOf e) (Src X V c))
  | .x _ => (BI.equiv_iff.mp sep_emp).symm
  | .v _ _ => (BI.equiv_iff.mp sep_emp).symm
  | .w 0 0 => lend_none X V c rfl rfl
  | .w 0 1 => lend_one X V c 2 rfl rfl rfl rfl
  | .w 0 2 => lend_halves X V c (t := 0) rfl rfl
  | .w 0 3 => lend_two X V c 4 5 rfl rfl rfl rfl rfl rfl
  | .w 0 4 => lend_none X V c rfl rfl
  | .w 0 5 => lend_none X V c rfl rfl
  | .w 1 0 => lend_two X V c 2 4 rfl rfl rfl rfl rfl rfl
  | .w 1 1 => lend_none X V c rfl rfl
  | .w 1 2 => lend_none X V c rfl rfl
  | .w 1 3 => lend_one X V c 5 rfl rfl rfl rfl
  | .w 1 4 => lend_none X V c rfl rfl
  | .w 1 5 => lend_halves X V c (t := 1) rfl rfl
  | .w 2 0 => lend_one X V c 4 rfl rfl rfl rfl
  | .w 2 1 => lend_two X V c 2 5 rfl rfl rfl rfl rfl rfl
  | .w 2 2 => lend_none X V c rfl rfl
  | .w 2 3 => lend_none X V c rfl rfl
  | .w 2 4 => lend_halves X V c (t := 2) rfl rfl
  | .w 2 5 => lend_none X V c rfl rfl

end Hold

end Cert.KernelIdeal.Tree

end
-- ==== Proof.Schedule.lean ====
/-
The semaphores' schedule.

A device has one cell for the barrier, one for the staging copies, and a send and a receive cell for each of its 31
transfers. The barrier's round has a duty for each other device: that device hands over the landing places this device
writes. A staging copy hands back the weight columns and their copy; a send cell hands back a transfer's source, a
receive cell its landing. Levels order the waits: staging and sends lowest, then the barrier, then the row blocks, then
the stripes in the order they are awaited.
-/
module

public import proofs.«01_k».proof.Proof.Lend
public import Idealize.ShloMosaic.Lib.Pipeline.Launch
public import Idealize.ShloMosaic.Lib.Pipeline.Kit

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kernel's own cells: the staging copies', and a transfer's send (`false`) and receive (`true`) cell. -/
abbrev Own : Type := Option (Edge × Bool)
/-- All its cells: the barrier's too. -/
abbrev Ck : Type := Option Own

def osem : Own → SemLoc sig
  | none => .dma cc0_scratch6.sem
  | some (e, false) => .dma (sendSem e)
  | some (e, true) => .dma (recvSem e)

def csem : Ck → SemLoc sig
  | none => .reg barSem
  | some k => osem k

theorem osem_inj : ∀ a b, osem a = osem b → a = b := by decide +kernel

theorem csem_inj : ∀ a b, csem a = csem b → a = b
  | none, none, _ => rfl
  | none, some none, h => by cases h
  | none, some (some (_, false)), h => by cases h
  | none, some (some (_, true)), h => by cases h
  | some none, none, h => by cases h
  | some (some (_, false)), none, h => by cases h
  | some (some (_, true)), none, h => by cases h
  | some a, some b, h => congrArg some (osem_inj a b h)

/-- Which of the cells a semaphore is. -/
def kindOf (s : SemLoc sig) : Option Ck := by
  classical exact if h : ∃ k, csem k = s then some h.choose else none

theorem kindOf_csem (k : Ck) : kindOf (csem k) = some k := by
  have h : ∃ k', csem k' = csem k := ⟨k, rfl⟩
  unfold kindOf
  rw [dif_pos h]
  exact congrArg some (csem_inj _ _ h.choose_spec)

abbrev cell (c : Dev nD) (k : Ck) : GSem nD τ sig := ((c : Thread nD τ), csem k)
abbrev barC : Ck := none
abbrev stgC : Ck := some none
abbrev sndC (e : Edge) : Ck := some (some (e, false))
abbrev rcvC (e : Edge) : Ck := some (some (e, true))

theorem cell_inj {c c' : Dev nD} {k k' : Ck} (h : cell c k = cell c' k') : c = c' ∧ k = k' :=
  ⟨congrArg (fun g : GSem nD τ sig => g.1.1) h, csem_inj _ _ (congrArg Prod.snd h)⟩

/-- The units a transfer signals, -/
abbrev N (e : Edge) : ℕ := (dst e).view.dmaCredit
/-- and a staging copy. -/
abbrev Nst (t : Fin 3) : ℕ := (stgM t).view.dmaCredit

theorem shp_pos : ∀ e, 0 < (shp e).numel := by decide +kernel
theorem N_pos (e : Edge) : 0 < N e := View.dmaCredit_pos _ (shp_pos e)
theorem Nst_pos (t : Fin 3) : 0 < Nst t := View.dmaCredit_pos _ (pos_col t)

/-- The stripe of a staging round. -/
def tOf (r : ℕ) : Fin 3 := ⟨r % 3, Nat.mod_lt _ (by decide)⟩

/-! ## The schedule -/

section Sched

variable (X : Dev nD → Vec F S4096x512 .fp8e5m2) (W : Dev nD → Vec F S512x8192 .f32)

/-- A device's weight at the machine's width. -/
def W8 (c : Dev nD) : Vec F S512x8192 .fp8e5m2 := truncf .fp8e5m2 (W c) bitsLt_fp8e5m2_f32

/-- The weight columns of a stripe. -/
def wCol (c : Dev nD) (t : Fin 3) : Vec F ⟨2, ![512, nc t]⟩ .f32 := fun i => W c ((rCol t).idx i)

def dutiesK (c : Dev nD) (r : ℕ) : Ck → Finset (Dev nD)
  | none => if r = 0 then Finset.univ.erase c else ∅
  | some none => if r < 3 then {0} else ∅
  | some (some _) => if r = 0 then {0} else ∅

def amountK (r : ℕ) : Ck → ℕ
  | none => 1
  | some none => Nst (tOf r)
  | some (some (e, _)) => N e

theorem amountK_pos (r : ℕ) : ∀ k, 0 < amountK r k
  | none => Nat.one_pos
  | some none => Nst_pos _
  | some (some (e, _)) => N_pos e

def payK (c : Dev nD) (r : ℕ) (d : Dev nD) : Ck → sProp 𝕄
  | none => bigSep (Finset.univ.filter fun e => peer d e = c) fun e => room (F := F) d (dst e)
  | some none => iprop(ownsTc c (stgM (tOf r)) fullShare (wCol W c (tOf r)) ∗ ownsTc c (inM (tOf r)) fullShare (wCol W c (tOf r)))
  | some (some (e, false)) => Src X (W8 W) c e
  | some (some (e, true)) => Dst X (W8 W) c e

instance payK_storable (c : Dev nD) (r : ℕ) (d : Dev nD) : ∀ k, BI.Storable (upEmb : UEmb _ 𝕄) (payK X W c r d k)
  | none => by unfold payK; infer_instance
  | some none => by unfold payK; infer_instance
  | some (some (e, false)) => by unfold payK; infer_instance
  | some (some (e, true)) => by unfold payK; infer_instance

def Rd : Rounds.Schedule (GSem nD τ sig) (Dev nD) 𝕄 where
  duties g r := if g.1.2 = .tc then (match kindOf g.2 with | some k => dutiesK g.1.1 r k | none => ∅) else ∅
  unitless _ := False
  amount g r _ := match kindOf g.2 with | some k => amountK r k | none => 1
  payload g r d := match kindOf g.2 with | some k => payK X W g.1.1 r d k | none => iprop(emp)
  amount_pos g r _ _ := by
    cases kindOf g.2 with
    | none => exact Nat.one_pos
    | some k => exact amountK_pos r k

instance Rd_storable (g : GSem nD τ sig) (r : ℕ) (d : Dev nD) : BI.Storable (upEmb : UEmb _ 𝕄) ((Rd X W).payload g r d) := by
  show BI.Storable upEmb (match kindOf g.2 with | some k => payK X W g.1.1 r d k | none => iprop(emp))
  cases kindOf g.2 with
  | none => infer_instance
  | some k => exact payK_storable X W _ r d k

theorem duties_cell (c : Dev nD) (k : Ck) (r : ℕ) : (Rd X W).duties (cell c k) r = dutiesK c r k := by
  dsimp only [Rd]; rw [if_pos rfl, kindOf_csem]
theorem amount_cell (c : Dev nD) (k : Ck) (r : ℕ) (d : Dev nD) : (Rd X W).amount (cell c k) r d = amountK r k := by
  dsimp only [Rd]; rw [kindOf_csem]
theorem payload_cell (c : Dev nD) (k : Ck) (r : ℕ) (d : Dev nD) : (Rd X W).payload (cell c k) r d = payK X W c r d k := by
  dsimp only [Rd]; rw [kindOf_csem]

theorem expect_cell (c : Dev nD) (k : Ck) (r : ℕ) : (Rd X W).expect (cell c k) r = (dutiesK c r k).card * amountK r k := by
  unfold Schedule.expect Schedule.amountOf
  rw [duties_cell, Finset.sum_congr rfl fun d _ => amount_cell X W c k r d, Finset.sum_const, smul_eq_mul]

theorem expect_bar (c : Dev nD) : (Rd X W).expect (cell c barC) 0 = 7 := by
  rw [expect_cell]
  show (Finset.univ.erase c).card * 1 = 7
  rw [Finset.card_erase_of_mem (Finset.mem_univ c), Finset.card_univ, Fintype.card_fin]
  rfl
theorem expect_stg (c : Dev nD) (r : ℕ) (h : r < 3) : (Rd X W).expect (cell c stgC) r = Nst (tOf r) := by
  rw [expect_cell]
  show (if r < 3 then ({0} : Finset (Dev nD)) else ∅).card * Nst (tOf r) = _
  rw [if_pos h, Finset.card_singleton, Nat.one_mul]
theorem expect_xfer (c : Dev nD) (e : Edge) (b : Bool) : (Rd X W).expect (cell c (some (some (e, b)))) 0 = N e := by
  rw [expect_cell]
  show (if 0 = 0 then ({0} : Finset (Dev nD)) else ∅).card * N e = _
  rw [if_pos rfl, Finset.card_singleton, Nat.one_mul]

theorem duties_stg (c : Dev nD) (r : ℕ) (h : r < 3) : (Rd X W).duties (cell c stgC) r = {0} := by
  rw [duties_cell]; exact if_pos h
theorem duties_xfer (c : Dev nD) (e : Edge) (b : Bool) : (Rd X W).duties (cell c (some (some (e, b)))) 0 = {0} := by
  rw [duties_cell]; rfl
theorem duties_bar (c : Dev nD) : (Rd X W).duties (cell c barC) 0 = Finset.univ.erase c := by
  rw [duties_cell]; rfl

theorem later_bar (c : Dev nD) : ∀ r, 0 + 1 ≤ r → (Rd X W).duties (cell c barC) r = ∅ := fun r hr => by
  rw [duties_cell]; exact if_neg (by omega)
theorem later_stg (c : Dev nD) : ∀ r, 3 ≤ r → (Rd X W).duties (cell c stgC) r = ∅ := fun r hr => by
  rw [duties_cell]; exact if_neg (by omega)
theorem later_xfer (c : Dev nD) (e : Edge) (b : Bool) : ∀ r, 0 + 1 ≤ r → (Rd X W).duties (cell c (some (some (e, b)))) r = ∅ := fun r hr => by
  rw [duties_cell]; exact if_neg (by omega)

theorem rest_stg (c : Dev nD) (r : ℕ) (h : r < 3) :
    bigSep ((Rd X W).duties (cell c stgC) r \ ∅) (fun d => (Rd X W).payload (cell c stgC) r d)
      = iprop(ownsTc c (stgM (tOf r)) fullShare (wCol W c (tOf r)) ∗ ownsTc c (inM (tOf r)) fullShare (wCol W c (tOf r))) := by
  rw [Finset.sdiff_empty, duties_stg X W c r h, bigSep_singleton, payload_cell]; rfl
theorem rest_snd (c : Dev nD) (e : Edge) :
    bigSep ((Rd X W).duties (cell c (sndC e)) 0 \ ∅) (fun d => (Rd X W).payload (cell c (sndC e)) 0 d) = Src X (W8 W) c e := by
  rw [Finset.sdiff_empty, duties_xfer, bigSep_singleton, payload_cell]; rfl
theorem rest_rcv (c : Dev nD) (e : Edge) :
    bigSep ((Rd X W).duties (cell c (rcvC e)) 0 \ ∅) (fun d => (Rd X W).payload (cell c (rcvC e)) 0 d) = Dst X (W8 W) c e := by
  rw [Finset.sdiff_empty, duties_xfer, bigSep_singleton, payload_cell]; rfl

/-- At the barrier every landing place the device writes arrives. -/
theorem rest_bar (c : Dev nD) :
    bigSep ((Rd X W).duties (cell c barC) 0 \ ∅) (fun d => (Rd X W).payload (cell c barC) 0 d)
      ⊢ (bigSep Finset.univ fun e => room (F := F) (peer c e) (dst e) : sProp 𝕄) := by
  have hp : ∀ d, (Rd X W).payload (cell c barC) 0 d = (bigSep (Finset.univ.filter fun e => peer c e = d) fun e => (room (F := F) (peer c e) (dst e) : sProp 𝕄)) := by
    intro d
    rw [payload_cell]
    have hs : (Finset.univ.filter fun e => peer d e = c) = (Finset.univ.filter fun e => peer c e = d) :=
      Finset.filter_congr fun e _ => ⟨fun h => by rw [← h, peer_peer], fun h => by rw [← h, peer_peer]⟩
    show (bigSep (Finset.univ.filter fun e => peer d e = c) fun e => (room (F := F) d (dst e) : sProp 𝕄)) = _
    rw [hs]
    exact bigSep_congr fun e he => by rw [(Finset.mem_filter.mp he).2]
  rw [Finset.sdiff_empty, duties_bar, bigSep_congr fun d _ => hp d]
  refine (bigSep_biUnion (Finset.univ.erase c) (fun d => Finset.univ.filter fun e => peer c e = d)
    (Φ := fun e => (room (F := F) (peer c e) (dst e) : sProp 𝕄))).trans (Entails.of_eq (congrArg (fun s => bigSep s _) ?_))
  exact Finset.eq_univ_iff_forall.mpr fun e => Finset.mem_biUnion.mpr
    ⟨peer c e, Finset.mem_erase.mpr ⟨peer_ne c e, Finset.mem_univ _⟩, Finset.mem_filter.mpr ⟨Finset.mem_univ _, rfl⟩⟩

end Sched

/-! ## Levels -/

/-- The place of a slot in the order the slots are awaited. -/
def turnIx : Fin 6 → ℕ := ![0, 1, 3, 2, 4, 5]

def lvE : Edge → ℕ
  | .x _ => 2
  | .w t m => 3 + 3 * turnIx m + t
  | .v t s => 21 + (bif s then 3 else 0) + t

def lvK : Ck → ℕ
  | none => 1
  | some (some (e, true)) => lvE e
  | _ => 0

def L (g : GSem nD τ sig) : Finset Unit := if g.1.2 = .tc then {()} else ∅
def lv (g : GSem nD τ sig) (_ : Unit) : ℕ := match kindOf g.2 with | some k => lvK k | none => 0

theorem L_of_ne (g : GSem nD τ sig) (h : g.1.2 ≠ .tc) : L g = ∅ := if_neg h
theorem L_cell (c : Dev nD) (s : SemLoc sig) : L ((c : Thread nD τ), s) = {()} := if_pos rfl
theorem lv_cell (c : Dev nD) (k : Ck) : lv (cell c k) () = lvK k := by
  unfold lv; rw [kindOf_csem]

end Cert.KernelIdeal.Tree

end
-- ==== Proof.State.lean ====
/-
Where a device stands between two steps.

For each transfer four bits: its source is at hand, it was started, its source was awaited, its landing was awaited. What
the device holds is read off the bits. `next` is the test that a step may run; the test of a whole list is computed.
-/
module

public import proofs.«01_k».proof.Proof.Schedule

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The bits -/

def code : Edge → ℕ
  | .x u => u
  | .w t m => 7 + 6 * t + m
  | .v t s => 25 + 2 * t + (bif s then 1 else 0)

theorem code_inj : ∀ e e' : Edge, code e = code e' → e = e' := by decide +kernel

def has (n : ℕ) (e : Edge) : Bool := n.testBit (code e)
def put (n : ℕ) (e : Edge) : ℕ := n ||| 2 ^ code e

theorem has_put (n : ℕ) (e e' : Edge) : has (put n e) e' = (has n e' || decide (e' = e)) := by
  unfold has put
  rw [Nat.testBit_or, Nat.testBit_two_pow]
  congr 1
  exact decide_eq_decide.mpr ⟨fun h => (code_inj _ _ h).symm, fun h => by rw [h]⟩
theorem has_put_self (n : ℕ) (e : Edge) : has (put n e) e = true := by
  rw [has_put, decide_eq_true rfl, Bool.or_true]
theorem has_put_ne (n : ℕ) {e e' : Edge} (h : e' ≠ e) : has (put n e) e' = has n e' := by
  rw [has_put, decide_eq_false h, Bool.or_false]
theorem has_zero (e : Edge) : has 0 e = false := Nat.zero_testBit _

/-- Sources at hand, transfers started, sources awaited, landings awaited. -/
structure St where
  A : ℕ
  S : ℕ
  D : ℕ
  R : ℕ
  deriving DecidableEq

/-- No transfer still owed is at or below a level. -/
def above (n : ℕ) (S : ℕ) : Bool := decide (∀ e : Edge, has S e = false → n < lvE e)

/-- None of a list's transfers has a source at hand. -/
def fresh (A S : ℕ) : List Edge → Bool
  | [] => true
  | e :: l => !has A e && !has S e && fresh (put A e) S l

def next (st : St) : Step → Option St
  | .send e => if has st.A e = true ∧ has st.S e = false ∧ has st.D e = false then some { st with S := put st.S e } else none
  | .recv e => if has st.R e = false ∧ above (lvE e) st.S = true ∧ fresh st.A st.S (kidsOf e) = true then
      some { st with R := put st.R e, A := (kidsOf e).foldl put st.A } else none
  | .done e => if has st.A e = true ∧ has st.S e = true ∧ has st.D e = false then some { st with D := put st.D e } else none
  | .acc t m => if has st.R (.w t m) = true ∧ has st.R (.x m.castSucc) = true then some st else none
  | .fin t s => if has st.R (.v t s) = true ∧ has st.R (.x 6) = true then some st else none

def run : List Step → St → Option St
  | [], st => some st
  | i :: l, st => (next st i).bind (run l)

/-! ## What the device holds -/

variable {F : FTy → Type} [FloatOps F]

local notation "𝕄" => MT nD τ sig Unit (Elt F) ℕ UU ℕ

abbrev 𝒱₀ : Variants := Variants.none

section Res

variable (X : Dev nD → Vec F S4096x512 .fp8e5m2) (W : Dev nD → Vec F S512x8192 .f32) (K : Dev nD × Ck → ℕ) (c : Dev nD)

/-- Running a program of the kernel on a device. -/
abbrev wpc (p : KProg F PUnit) (Q : PUnit → sProp 𝕄) : sProp 𝕄 :=
  wp frame (wpE (defs₀ (F := F)) 𝒱₀ (c : Thread nD τ) none) Set.univ p Q

/-- Every cell's invariant, at the names the launch chose, and that its first round has begun. -/
def recs : sProp 𝕄 := bigSep Finset.univ fun ck : Dev nD × Ck =>
  iprop(cellInv ER (Rd X W) (K ck) (cell ck.1 ck.2) ∗ reached ER (cell ck.1 ck.2) 0)

instance recs_persistent : BI.Persistent (recs X W K) := by unfold recs; infer_instance

theorem recs_inv (k : Ck) : recs X W K ⊢ cellInv ER (Rd X W) (K (c, k)) (cell c k) := by
  unfold recs
  refine (show _ ⊢ _ from bigSep_elim (Finset.mem_univ (c, k))).trans ?_
  iintro ⟨H, -⟩
  iexact H
theorem recs_reached (k : Ck) : recs X W K ⊢ reached ER (cell c k) 0 := by
  unfold recs
  refine (show _ ⊢ _ from bigSep_elim (Finset.mem_univ (c, k))).trans ?_
  iintro ⟨-, H⟩
  iexact H

/-- A transfer's sending side: not started, started, its source awaited. -/
def sendR (e : Edge) : Bool → Bool → sProp 𝕄
  | false, _ => iprop(room (F := F) (peer c e) (dst e) ∗ dutyTok ER (cell c (sndC e)) 0 0 ∗ dutyTok ER (cell (peer c e) (rcvC e)) 0 0 ∗ atPos ER (cell c (sndC e)) 0 ∅ 0)
  | true, false => iprop(cred (tallyAt (cell c (sndC e)) () (N e)) ∗ atPos ER (cell c (sndC e)) 0 ∅ 0)
  | true, true => semVal (cell c (sndC e)) 0
/-- Its receiving side: awaited or not. -/
def recvR (e : Edge) : Bool → sProp 𝕄
  | false => iprop(cred (tallyAt (cell c (rcvC e)) () (N e)) ∗ atPos ER (cell c (rcvC e)) 0 ∅ 0)
  | true => iprop(Keep X (W8 W) c e ∗ semVal (cell c (rcvC e)) 0)
/-- Its source: at hand unless the transfer is under way. -/
def srcR (e : Edge) : Bool → Bool → Bool → sProp 𝕄
  | true, false, _ => Src X (W8 W) c e
  | true, true, true => Src X (W8 W) c e
  | _, _, _ => iprop(emp)

theorem srcR_here (e : Edge) (d : Bool) : srcR X W c e true false d = Src X (W8 W) c e := by cases d <;> rfl
theorem sendR_idle (e : Edge) (d : Bool) : sendR (F := F) c e false d
    = iprop(room (F := F) (peer c e) (dst e) ∗ dutyTok ER (cell c (sndC e)) 0 0 ∗ dutyTok ER (cell (peer c e) (rcvC e)) 0 0 ∗ atPos ER (cell c (sndC e)) 0 ∅ 0) := by
  cases d <;> rfl

def eres (st : St) (e : Edge) : sProp 𝕄 :=
  iprop(sendR c e (has st.S e) (has st.D e) ∗ recvR X W c e (has st.R e) ∗ srcR X W c e (has st.A e) (has st.S e) (has st.D e))

def res (st : St) : sProp 𝕄 := bigSep Finset.univ (eres X W c st)

/-- What the device still has to deliver. -/
def owed (S : ℕ) : CellTallies nD τ sig Unit :=
  ∑ e ∈ Finset.univ.filter (fun e => has S e = false), tallyAt (cell (peer c e) (rcvC e)) () (N e)

def hold (st : St) : sProp 𝕄 := iprop(res X W c st ∗ ∃ B, owes (c : Thread nD τ) (owed c st.S) B)

theorem owed_put {S : ℕ} {e : Edge} (h : has S e = false) :
    owed c S = owed c (put S e) + tallyAt (cell (peer c e) (rcvC e)) () (N e) := by
  unfold owed
  have hs : Finset.univ.filter (fun e' => has S e' = false) = insert e (Finset.univ.filter fun e' => has (put S e) e' = false) := by
    ext e'
    rw [Finset.mem_insert, Finset.mem_filter, Finset.mem_filter]
    by_cases he : e' = e
    · subst he; simp [h]
    · simp [has_put_ne S he, he]
  rw [hs, Finset.sum_insert (by rw [Finset.mem_filter, has_put_self]; simp), add_comm]

theorem owed_pos {S : ℕ} {g : GSem nD τ sig} {u : Unit} (h : 0 < owed c S g u) :
    ∃ e, has S e = false ∧ g = cell (peer c e) (rcvC e) := by
  unfold owed at h
  rw [Finset.sum_apply, Finsupp.finset_sum_apply] at h
  obtain ⟨e, he, hp⟩ := Finset.exists_ne_zero_of_sum_ne_zero (Nat.pos_iff_ne_zero.mp h)
  refine ⟨e, (Finset.mem_filter.mp he).2, ?_⟩
  rw [tallyAt_apply] at hp
  by_contra hn
  rw [if_neg fun h' => hn h'.1] at hp
  exact hp rfl

theorem mayWait_owed (k : Ck) {S : ℕ} (h : ∀ e, has S e = false → lvK k < lvE e) :
    (levAts L lv : sProp 𝕄) ⊢ MayWait (c : Thread nD τ) (csem k) () (owed c S) :=
  MayOwe.of_cut (L := L) (lev := lv) (lvK k) (fun p hp => by rw [Finset.mem_singleton.mp hp, L_cell]; exact Finset.mem_singleton_self _)
    (fun g u hg => by obtain ⟨e, he, rfl⟩ := owed_pos c hg; rw [L_cell]; exact Finset.mem_singleton_self _)
    (fun p hp => by rw [Finset.mem_singleton.mp hp]; exact Nat.le_of_eq (lv_cell c k))
    (fun g u hg => by obtain ⟨e, he, rfl⟩ := owed_pos c hg; rw [lv_cell]; exact h e he)

/-- One transfer's holding changes. -/
theorem res_update (st st' : St) (e : Edge) (h : ∀ e', e' ≠ e → eres X W c st' e' = eres X W c st e') :
    res X W c st ⊢ iprop(eres X W c st e ∗ (eres X W c st' e -∗ res X W c st')) :=
  bigSep_univ_update e h

/-- Sources come to hand. -/
theorem res_kids (st : St) : ∀ (l : List Edge) (A : ℕ), fresh A st.S l = true →
    iprop(res X W c { st with A := A } ∗ bigSepL l (Src X (W8 W) c)) ⊢ res X W c { st with A := l.foldl put A }
  | [], A, _ => by
    iintro ⟨H, -⟩
    iexact H
  | e :: l, A, h => by
    unfold fresh at h
    simp only [Bool.and_eq_true, Bool.not_eq_true'] at h
    obtain ⟨⟨hA, hS⟩, hf⟩ := h
    rw [bigSepL_cons']
    iintro ⟨H, Hs, Hl⟩
    iapply (res_kids st l (put A e) hf)
    isplitr [Hl]
    · unfold res
      ihave Hu := (bigSep_univ_update (Φ := eres X W c { st with A := A }) (Ψ := eres X W c { st with A := put A e }) e (fun e' he => by
        unfold eres; rw [show has (put A e) e' = has A e' from has_put_ne A he])) $$ H
      icases Hu with ⟨He, Hk⟩
      iapply Hk
      unfold eres
      simp only [hA, hS, has_put_self, srcR_here]
      icases He with ⟨H1, H2, -⟩
      isplitl [H1]; · iexact H1
      isplitl [H2]; · iexact H2
      iexact Hs
    · iexact Hl

/-- What was received may be looked at. -/
theorem res_keep (st : St) (e : Edge) (h : has st.R e = true) :
    res X W c st ⊢ iprop(Keep X (W8 W) c e ∗ (Keep X (W8 W) c e -∗ res X W c st)) := by
  unfold res
  iintro H
  ihave Hu := (bigSep_univ_update (Φ := eres X W c st) (Ψ := eres X W c st) e (fun _ _ => rfl)) $$ H
  icases Hu with ⟨He, Hk⟩
  ihave He' := (show eres X W c st e ⊢ iprop(Keep X (W8 W) c e ∗ (Keep X (W8 W) c e -∗ eres X W c st e)) from by
    unfold eres
    simp only [h]
    unfold recvR
    iintro ⟨H1, ⟨H2, H3⟩, H4⟩
    isplitl [H2]; · iexact H2
    iintro H2
    isplitl [H1]; · iexact H1
    isplitr [H4]
    · isplitl [H2]; · iexact H2
      iexact H3
    iexact H4) $$ He
  icases He' with ⟨HK, Hb⟩
  isplitl [HK]; · iexact HK
  iintro HK
  iapply Hk
  iapply Hb
  iexact HK

end Res

end Cert.KernelIdeal.Tree

end
-- ==== Proof.Steps.lean ====
/-
A step from what the device holds.

Each step takes `hold` at one state to `hold` at the next and the output from one value to the next; a list of steps whose
test succeeds does both in turn.
-/
module

public import proofs.«01_k».proof.Proof.State

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Step

variable (X : Dev nD → Vec F S4096x512 .fp8e5m2) (W : Dev nD → Vec F S512x8192 .f32) (K : Dev nD × Ck → ℕ) (c : Dev nD)

/-! ## Transfers -/

theorem src_credit : ∀ e, (src c e).view.dmaCredit = N e
  | .x u => rfl
  | .w 0 m => by fin_cases m <;> rfl
  | .w 1 m => by fin_cases m <;> rfl
  | .w 2 m => by fin_cases m <;> rfl
  | .v t s => rfl

/-- A transfer starts: its source, its landing place and both duties go in, and credit for its source comes back. -/
theorem wp_start (e : Edge) (S : ℕ) (hS : has S e = false) {B : Waits sig Unit}
    {k : PUnit → KProg F PUnit} {Q : PUnit → sProp 𝕄} :
    iprop(recs X W K ∗ Src X (W8 W) c e ∗ room (F := F) (peer c e) (dst e) ∗ owes (c : Thread nD τ) (owed c S) B
        ∗ dutyTok ER (cell c (sndC e)) 0 0 ∗ dutyTok ER (cell (peer c e) (rcvC e)) 0 0)
      ⊢ iprop(((cred (tallyAt (cell c (sndC e)) () (N e)) ∗ owes (c : Thread nD τ) (owed c (put S e)) B) -∗ wpc c (k ⟨⟩) Q)
          -∗ wpc c (.op (.enqueueDma (src c e) (.remote (Dev.tc (peer c e)) (dst e) (.dma (sendSem e))) (.dma (recvSem e))
              (src_wordExact c e) (dst_wordExact e) ⟨⟨rfl, Or.inl rfl⟩, trivial⟩) k) Q) := by
  iintro ⟨#HR, HS, Hr, HO, Ht1, Ht2⟩ Hk
  ihave Hr' := (show (room (F := F) (peer c e) (dst e) : sProp 𝕄)
    ⊢ iprop(∃ f, (dst e).view.loc (peer c e : Thread nD τ) ↦[(dst e).view.set]{fullShare} f) from .rfl) $$ Hr
  icases Hr' with ⟨%fd, Hd⟩
  ihave HS' := (show (Src X (W8 W) c e : sProp 𝕄) ⊢ iprop(∃ f, ⌜(src c e).view.read (Elt F) f = sent X (W8 W) c e⌝
    ∗ ((src c e).view.loc (c : Thread nD τ) ↦[(src c e).view.set]{sendQ e} f)) from .rfl) $$ HS
  icases HS' with ⟨%fs, %hfs, HS⟩
  iapply (Rounds.wp_send_pointsTo 𝒱₀ ER (Rd X W) (c : Thread nD τ) none (κ₁ := K (c, sndC e)) (κ₂ := K (peer c e, rcvC e))
    (r₁ := 0) (r₂ := 0) (d₁ := 0) (d₂ := 0) (fd := fd) (fs := fs) (q := sendQ e)
    (by rw [duties_xfer]; exact Finset.mem_singleton_self _)
    (by rw [duties_xfer]; exact Finset.mem_singleton_self _)
    () () (N e) rfl (amount_cell X W c (sndC e) 0 0) (amount_cell X W (peer c e) (rcvC e) 0 0)
    (owed c (put S e)) (owed_put c hS) (W := B)
    (by rw [payload_cell]
        exact Entails.of_eq (owns_eq c (src c e) (sendQ e) hfs).symm)
    (by rw [payload_cell]
        exact Entails.of_eq (owns_eq (peer c e) (dst e) fullShare ((View.read_write_univ _ _).trans hfs)).symm)) $$ [HS Hd HO Ht1 Ht2]
  · isplitr; · iapply (recs_inv X W K c (sndC e)); iexact HR
    isplitr; · iapply (recs_inv X W K (peer c e) (rcvC e)); iexact HR
    isplitl [HS]; · iexact HS
    isplitl [Hd]; · iexact Hd
    isplitl [HO]; · iexact HO
    isplitl [Ht1]; · iexact Ht1
    isplitr; · iapply (recs_reached X W K c (sndC e)); iexact HR
    isplitl [Ht2]; · iexact Ht2
    iapply (recs_reached X W K (peer c e) (rcvC e)); iexact HR
  iexact Hk

/-- A wait for a transfer's semaphore: its payload comes, and the semaphore is at zero for good. -/
theorem wp_await (e : Edge) (b : Bool) (S : ℕ) (h : ∀ e', has S e' = false → lvK (some (some (e, b))) < lvE e') {B : Waits sig Unit}
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (osem (some (e, b))) (N e) P)
    {k : PUnit → KProg F PUnit} {Q : PUnit → sProp 𝕄} :
    iprop(recs X W K ∗ levAts L lv ∗ cred (tallyAt (cell c (some (some (e, b)))) () (N e)) ∗ owes (c : Thread nD τ) (owed c S) B
        ∗ atPos ER (cell c (some (some (e, b)))) 0 ∅ 0)
      ⊢ iprop((((∃ B, owes (c : Thread nD τ) (owed c S) B) ∗ semVal (cell c (some (some (e, b)))) 0 ∗ payK X W c 0 0 (some (some (e, b)))) -∗ wpc c (k ⟨⟩) Q)
          -∗ wpc c (.op w k) Q) := by
  iintro ⟨#HR, #Hl, Hc, HO, Hat⟩ Hk
  iapply (Rounds.wp_wait_rest_token 𝒱₀ ER (Rd X W) (c : Thread nD τ) none (κ := K (c, some (some (e, b)))) hw (Set.mem_univ _) ()
    (O := owed c S) (W := B) (R := 0) (m := 0) (T := ∅)
    (by rw [show ((c : Thread nD τ), osem (some (e, b))) = cell c (some (some (e, b))) from rfl, expect_xfer, Nat.zero_add])) $$ [Hc HO Hat]
  · isplitr; · iapply (recs_inv X W K c (some (some (e, b)))); iexact HR
    isplitl [Hc]; · iexact Hc
    isplitl [HO]; · iexact HO
    isplitr; · iapply (mayWait_owed c (some (some (e, b))) h); iexact Hl
    iexact Hat
  iintro ⟨HO, Hat, -, Hp⟩
  ihave Hv := (Rounds.cell_close ER (Rd X W) (Es := Set.univ) (κ := K (c, some (some (e, b)))) (Set.mem_univ _) (fun h => h) (later_xfer X W c e b)) $$ [Hat]
  · isplitr; · iapply (recs_inv X W K c (some (some (e, b)))); iexact HR
    iexact Hat
  imod Hv
  iapply Hk
  isplitl [HO]; · iexists _; iexact HO
  isplitl [Hv]; · iexact Hv
  ihave Hp' := (Entails.of_eq (show bigSep ((Rd X W).duties ((c : Thread nD τ), osem (some (e, b))) 0 \ ∅) (fun d => (Rd X W).payload ((c : Thread nD τ), osem (some (e, b))) 0 d)
      = payK X W c 0 0 (some (some (e, b))) from by
    rw [show ((c : Thread nD τ), osem (some (e, b))) = cell c (some (some (e, b))) from rfl]
    rw [Finset.sdiff_empty, duties_xfer, bigSep_singleton, payload_cell])) $$ Hp
  iexact Hp'

theorem lvE_pos : ∀ e, 0 < lvE e := by decide

theorem step_send (st : St) (e : Edge) (hA : has st.A e = true) (hS : has st.S e = false) (hD : has st.D e = false) (sc : F .f32)
    {k : KProg F PUnit} {Q : PUnit → sProp 𝕄} :
    iprop(recs X W K ∗ hold X W c st)
      ⊢ iprop((hold X W c { st with S := put st.S e } -∗ wpc c k Q) -∗ wpc c ((Step.send e).prog c sc >>= fun _ => k) Q) := by
  unfold hold
  iintro ⟨#HR, H, ⟨%B, HO⟩⟩ Hk
  ihave Hu := (res_update X W c st { st with S := put st.S e } e (fun e' he => by
    unfold eres; rw [show has (put st.S e) e' = has st.S e' from has_put_ne st.S he])) $$ H
  icases Hu with ⟨He, Hb⟩
  ihave He' := (Entails.of_eq (show eres X W c st e = iprop((room (F := F) (peer c e) (dst e) ∗ dutyTok ER (cell c (sndC e)) 0 0
      ∗ dutyTok ER (cell (peer c e) (rcvC e)) 0 0 ∗ atPos ER (cell c (sndC e)) 0 ∅ 0) ∗ recvR X W c e (has st.R e) ∗ Src X (W8 W) c e) from by
    unfold eres; rw [hA, hS, srcR_here, sendR_idle])) $$ He
  icases He' with ⟨⟨Hr, Ht1, Ht2, Hat⟩, Hv, Hs⟩
  iapply (wp_start X W K c e st.S hS (B := B) (k := fun _ => k)) $$ [Hr Ht1 Ht2 Hs HO]
  · isplitr; · iexact HR
    isplitl [Hs]; · iexact Hs
    isplitl [Hr]; · iexact Hr
    isplitl [HO]; · iexact HO
    isplitl [Ht1]; · iexact Ht1
    iexact Ht2
  iintro ⟨Hc, HO⟩
  iapply Hk
  isplitr [HO]
  · iapply Hb
    iapply (Entails.of_eq (show iprop((cred (tallyAt (cell c (sndC e)) () (N e)) ∗ atPos ER (cell c (sndC e)) 0 ∅ 0) ∗ recvR X W c e (has st.R e) ∗ emp)
        = eres X W c { st with S := put st.S e } e from by
      unfold eres; rw [hA, hD, show has (put st.S e) e = true from has_put_self _ _]; rfl))
    isplitl [Hc Hat]
    · isplitl [Hc]; · iexact Hc
      iexact Hat
    isplitl [Hv]; · iexact Hv
    iempintro
  · iexists B; iexact HO

theorem step_recv (st : St) (e : Edge) (hR : has st.R e = false) (hl : above (lvE e) st.S = true) (hf : fresh st.A st.S (kidsOf e) = true) (sc : F .f32)
    {k : KProg F PUnit} {Q : PUnit → sProp 𝕄} :
    iprop(recs X W K ∗ levAts L lv ∗ hold X W c st)
      ⊢ iprop((hold X W c { st with R := put st.R e, A := (kidsOf e).foldl put st.A } -∗ wpc c k Q) -∗ wpc c ((Step.recv e).prog c sc >>= fun _ => k) Q) := by
  unfold hold
  iintro ⟨#HR, #Hl, H, ⟨%B, HO⟩⟩ Hk
  ihave Hu := (res_update X W c st { st with R := put st.R e } e (fun e' he => by
    unfold eres; rw [show has (put st.R e) e' = has st.R e' from has_put_ne st.R he])) $$ H
  icases Hu with ⟨He, Hb⟩
  ihave He' := (Entails.of_eq (show eres X W c st e = iprop(sendR c e (has st.S e) (has st.D e)
      ∗ (cred (tallyAt (cell c (rcvC e)) () (N e)) ∗ atPos ER (cell c (rcvC e)) 0 ∅ 0) ∗ srcR X W c e (has st.A e) (has st.S e) (has st.D e)) from by
    unfold eres; rw [hR]; rfl)) $$ He
  icases He' with ⟨H1, ⟨Hc, Hat⟩, H3⟩
  iapply (wp_await X W K c e true st.S (of_decide_eq_true hl) (B := B) (w := .waitDma2 (recvSem e) (dst e) (dst e) (dst_wordExact e) (dst_wordExact e))
    (wpE_waitDma2_eq 𝒱₀ (c : Thread nD τ) none Set.univ) (k := fun _ => k)) $$ [Hc Hat HO]
  · isplitr; · iexact HR
    isplitr; · iexact Hl
    isplitl [Hc]; · iexact Hc
    isplitl [HO]; · iexact HO
    iexact Hat
  iintro ⟨HO, Hv, Hp⟩
  ihave Hp' := (Entails.of_eq (show payK X W c 0 0 (rcvC e) = iprop(Keep X (W8 W) c e ∗ bigSepL (kidsOf e) (Src X (W8 W) c)) from lend X (W8 W) c e)) $$ Hp
  icases Hp' with ⟨HK, Hs⟩
  iapply Hk
  isplitr [HO]
  · iapply (res_kids X W c { st with R := put st.R e } (kidsOf e) st.A hf)
    isplitr [Hs]
    · unfold res
      iapply Hb
      iapply (Entails.of_eq (show iprop(sendR c e (has st.S e) (has st.D e) ∗ (Keep X (W8 W) c e ∗ semVal (cell c (rcvC e)) 0)
          ∗ srcR X W c e (has st.A e) (has st.S e) (has st.D e)) = eres X W c { st with R := put st.R e } e from by
        unfold eres; rw [show has (put st.R e) e = true from has_put_self _ _]; rfl))
      isplitl [H1]; · iexact H1
      isplitr [H3]
      · isplitl [HK]; · iexact HK
        iexact Hv
      iexact H3
    · iexact Hs
  · iexact HO

theorem step_done (st : St) (e : Edge) (hA : has st.A e = true) (hS : has st.S e = true) (hD : has st.D e = false) (sc : F .f32)
    {k : KProg F PUnit} {Q : PUnit → sProp 𝕄} :
    iprop(recs X W K ∗ levAts L lv ∗ hold X W c st)
      ⊢ iprop((hold X W c { st with D := put st.D e } -∗ wpc c k Q) -∗ wpc c ((Step.done e).prog c sc >>= fun _ => k) Q) := by
  unfold hold
  iintro ⟨#HR, #Hl, H, ⟨%B, HO⟩⟩ Hk
  ihave Hu := (res_update X W c st { st with D := put st.D e } e (fun e' he => by
    unfold eres; rw [show has (put st.D e) e' = has st.D e' from has_put_ne st.D he])) $$ H
  icases Hu with ⟨He, Hb⟩
  ihave He' := (Entails.of_eq (show eres X W c st e = iprop((cred (tallyAt (cell c (sndC e)) () (N e)) ∗ atPos ER (cell c (sndC e)) 0 ∅ 0)
      ∗ recvR X W c e (has st.R e) ∗ emp) from by
    unfold eres; rw [hA, hS, hD]; rfl)) $$ He
  icases He' with ⟨⟨Hc, Hat⟩, H2, -⟩
  iapply (wp_await X W K c e false st.S (fun e' _ => lvE_pos e') (B := B) (w := .waitDma2 (sendSem e) (dst e) (src c e) (dst_wordExact e) (src_wordExact c e))
    (fun P => by rw [← src_credit c e]; exact wpE_waitDma2_eq 𝒱₀ (c : Thread nD τ) none Set.univ P) (k := fun _ => k)) $$ [Hc Hat HO]
  · isplitr; · iexact HR
    isplitr; · iexact Hl
    isplitl [Hc]; · iexact Hc
    isplitl [HO]; · iexact HO
    iexact Hat
  iintro ⟨HO, Hv, Hp⟩
  ihave Hp' := (Entails.of_eq (show payK X W c 0 0 (sndC e) = Src X (W8 W) c e from rfl)) $$ Hp
  iapply Hk
  isplitr [HO]
  · iapply Hb
    iapply (Entails.of_eq (show iprop(semVal (cell c (sndC e)) 0 ∗ recvR X W c e (has st.R e) ∗ Src X (W8 W) c e)
        = eres X W c { st with D := put st.D e } e from by
      unfold eres; rw [hA, hS, show has (put st.D e) e = true from has_put_self _ _]; rfl))
    isplitl [Hv]; · iexact Hv
    isplitl [H2]; · iexact H2
    iexact Hp'
  · iexact HO

/-! ## Products -/

/-- A load of a received slot, as the transfer's contents. -/
theorem wp_slot {sp : CoreSpace} {s : Shape} {e : EltTy} (M : Memref sig .tc sp s e) (r : Rect s) (hr : ∀ a, r.stride a = 1) (sh : Shape)
    (hq : r.shape.Squeezes sh) (h' : sh.ShapeCasts r.shape) (q : PosShare TreeShare) (g : Vec F sh e) {hl : M.view.LoadsAt r.toLoadRect}
    {k : (r.shape.Idx → Elt F e) → KProg F PUnit} {Q : PUnit → sProp 𝕄} :
    (ownsTc c ((M.slice r hr).squeeze sh hq) q g : sProp 𝕄)
      ⊢ iprop((ownsTc c ((M.slice r hr).squeeze sh hq) q g -∗ wpc c (k (shapeCast r.shape g h')) Q)
          -∗ wpc c (.op (.load M r.toLoadRect hl) k) Q) := by
  iintro H Hk
  ihave H' := (show (ownsTc c ((M.slice r hr).squeeze sh hq) q g : sProp 𝕄)
    ⊢ iprop(∃ f, ⌜((M.slice r hr).squeeze sh hq).view.read (Elt F) f = g⌝
      ∗ (((M.slice r hr).squeeze sh hq).view.loc (c : Thread nD τ) ↦[((M.slice r hr).squeeze sh hq).view.set]{q} f)) from .rfl) $$ H
  icases H' with ⟨%f, %hf, H⟩
  iapply (wp_load_rect 𝒱₀ (c : Thread nD τ) none Set.univ (m := M) (r := r) (S := ((M.slice r hr).squeeze sh hq).view.set) (q := q) (f := f)
    (by rw [View.set_reshape])) $$ H
  iintro H
  have e1 : (M.access r).read (Elt F) f = shapeCast r.shape g h' := by
    subst hf
    funext j
    show _ = (M.access r).read (Elt F) f (Shape.reshapeEquiv _ (Shape.reshapeEquiv h' j))
    rw [Shape.reshapeEquiv_reshapeEquiv, Shape.reshapeEquiv_self]
  rw [e1]
  iapply Hk
  iapply (Entails.of_eq (owns_eq c ((M.slice r hr).squeeze sh hq) q hf).symm)
  iexact H

theorem casts_xg : S512x512.ShapeCasts S1x512x512 := by decide
theorem casts_slot : ∀ t : Fin 3, (⟨2, ![512, nc t]⟩ : Shape).ShapeCasts ⟨3, ![1, 512, nc t]⟩ := by decide
theorem casts_half : ∀ (t : Fin 3) (s : Bool), (⟨2, ![512, hc t s]⟩ : Shape).ShapeCasts ⟨3, ![1, 512, hc t s]⟩ := by decide

theorem keep_x (V : Dev nD → Vec F S512x8192 .fp8e5m2) (m : Fin 7) : (Keep X V c (.x m) : sProp 𝕄)
    = ownsTc c (((Memref.whole cc0_scratch0).slice (rXg m.succ) (fun _ => rfl)).squeeze S512x512 squeezes_S1x512x512_S512x512) fullShare (got X V c (.x m)) := rfl
theorem keep_w (V : Dev nD → Vec F S512x8192 .fp8e5m2) (t : Fin 3) (m : Fin 6) : (Keep X V c (.w t m) : sProp 𝕄)
    = ownsTc c (((wb t).slice (rSlot t m.castSucc) (fun _ => rfl)).squeeze ⟨2, ![512, nc t]⟩ (sq_slot t)) (keepQ (.w t m)) (got X V c (.w t m)) := rfl
theorem keep_v (V : Dev nD → Vec F S512x8192 .fp8e5m2) (t : Fin 3) (s : Bool) : (Keep X V c (.v t s) : sProp 𝕄)
    = ownsTc c (((wb t).slice (rHalf t 6 s) (fun _ => rfl)).squeeze ⟨2, ![512, hc t s]⟩ (sq_half t s)) fullShare (got X V c (.v t s)) := rfl

/-- The output's staging buffer at a value. -/
abbrev outR (O : (cc0_stg3_0 : Ref sig .tc).ty.Contents (Elt F)) : sProp 𝕄 := ((c : Thread nD τ).loc cc0_stg3_0) ↦{fullShare} O

/-- The output after one slot's product, -/
def accO (t : Fin 3) (m : Fin 6) (O : (cc0_stg3_0 : Ref sig .tc).ty.Contents (Elt F)) : (cc0_stg3_0 : Ref sig .tc).ty.Contents (Elt F) :=
  ((Memref.whole cc0_stg3_0).access (rCol t)).write (Elt F) O
    (payAcc t (((Memref.whole cc0_stg3_0).access (rCol t)).read (Elt F) O) (shapeCast S1x512x512 (got X (W8 W) c (.x m.castSucc)) casts_xg)
      (shapeCast ⟨3, ![1, 512, nc t]⟩ (got X (W8 W) c (.w t m)) (casts_slot t))) Finset.univ
/-- and after a half's last. -/
def finO (sc : F .f32) (t : Fin 3) (s : Bool) (O : (cc0_stg3_0 : Ref sig .tc).ty.Contents (Elt F)) : (cc0_stg3_0 : Ref sig .tc).ty.Contents (Elt F) :=
  ((Memref.whole cc0_stg3_0).access (rHcol t s)).write (Elt F) O
    (payFin sc t s (((Memref.whole cc0_stg3_0).access (rHcol t s)).read (Elt F) O) (shapeCast S1x512x512 (got X (W8 W) c (.x 6)) casts_xg)
      (shapeCast ⟨3, ![1, 512, hc t s]⟩ (got X (W8 W) c (.v t s)) (casts_half t s))) Finset.univ

def stepO (sc : F .f32) (O : (cc0_stg3_0 : Ref sig .tc).ty.Contents (Elt F)) : Step → (cc0_stg3_0 : Ref sig .tc).ty.Contents (Elt F)
  | .acc t m => accO X W c t m O
  | .fin t s => finO X W c sc t s O
  | _ => O

theorem step_acc (st : St) (t : Fin 3) (m : Fin 6) (hw : has st.R (.w t m) = true) (hx : has st.R (.x m.castSucc) = true) (sc : F .f32)
    (O : (cc0_stg3_0 : Ref sig .tc).ty.Contents (Elt F)) {k : KProg F PUnit} {Q : PUnit → sProp 𝕄} :
    iprop(hold X W c st ∗ outR c O)
      ⊢ iprop(((hold X W c st ∗ outR c (accO X W c t m O)) -∗ wpc c k Q) -∗ wpc c ((Step.acc t m).prog c sc >>= fun _ => k) Q) := by
  unfold hold
  simp only [Step.prog, Prog.lift, Prog.bind_op, Prog.bind_ret, bind_assoc]
  iintro ⟨⟨H, HO⟩, Ho⟩ Hk
  iapply (wp_load_rect 𝒱₀ (c : Thread nD τ) none Set.univ (m := Memref.whole cc0_stg3_0) (r := rCol t) (S := Finset.univ) (q := fullShare) (f := O) (Finset.subset_univ _)) $$ Ho
  iintro Ho
  ihave Hx := (res_keep X W c st (.x m.castSucc) hx) $$ H
  icases Hx with ⟨HK, Hb⟩
  ihave HK := (Entails.of_eq (keep_x X c (W8 W) m.castSucc)) $$ HK
  iapply (wp_slot c (Memref.whole cc0_scratch0) (rXg m.castSucc.succ) (fun _ => rfl) S512x512 squeezes_S1x512x512_S512x512 casts_xg fullShare
    (got X (W8 W) c (.x m.castSucc))) $$ HK
  iintro HK
  ihave HK := (Entails.of_eq (keep_x X c (W8 W) m.castSucc).symm) $$ HK
  ihave H := Hb $$ HK
  ihave Hx := (res_keep X W c st (.w t m) hw) $$ H
  icases Hx with ⟨HK, Hb⟩
  ihave HK := (Entails.of_eq (keep_w X c (W8 W) t m)) $$ HK
  iapply (wp_slot c (wb t) (rSlot t m.castSucc) (fun _ => rfl) ⟨2, ![512, nc t]⟩ (sq_slot t) (casts_slot t) (keepQ (.w t m))
    (got X (W8 W) c (.w t m))) $$ HK
  iintro HK
  ihave HK := (Entails.of_eq (keep_w X c (W8 W) t m).symm) $$ HK
  ihave H := Hb $$ HK
  iapply (wp_load_rect 𝒱₀ (c : Thread nD τ) none Set.univ (m := Memref.whole cc0_stg3_0) (r := rCol t) (S := Finset.univ) (q := fullShare) (f := O) (Finset.subset_univ _)) $$ Ho
  iintro Ho
  iapply (wp_store 𝒱₀ (c : Thread nD τ) none Set.univ (m := Memref.whole cc0_stg3_0) (r := rCol t) (Mk := Finset.univ) (S := Finset.univ) (f := O) (Finset.subset_univ _)) $$ Ho
  iintro Ho
  iapply Hk
  isplitl [H HO]
  · isplitl [H]; · iexact H
    iexact HO
  iexact Ho

theorem step_fin (st : St) (t : Fin 3) (s : Bool) (hw : has st.R (.v t s) = true) (hx : has st.R (.x 6) = true) (sc : F .f32)
    (O : (cc0_stg3_0 : Ref sig .tc).ty.Contents (Elt F)) {k : KProg F PUnit} {Q : PUnit → sProp 𝕄} :
    iprop(hold X W c st ∗ outR c O)
      ⊢ iprop(((hold X W c st ∗ outR c (finO X W c sc t s O)) -∗ wpc c k Q) -∗ wpc c ((Step.fin t s).prog c sc >>= fun _ => k) Q) := by
  unfold hold
  simp only [Step.prog, Prog.lift, Prog.bind_op, Prog.bind_ret, bind_assoc]
  iintro ⟨⟨H, HO⟩, Ho⟩ Hk
  iapply (wp_load_rect 𝒱₀ (c : Thread nD τ) none Set.univ (m := Memref.whole cc0_stg3_0) (r := rHcol t s) (S := Finset.univ) (q := fullShare) (f := O) (Finset.subset_univ _)) $$ Ho
  iintro Ho
  ihave Hx := (res_keep X W c st (.x 6) hx) $$ H
  icases Hx with ⟨HK, Hb⟩
  ihave HK := (Entails.of_eq (keep_x X c (W8 W) 6)) $$ HK
  iapply (wp_slot c (Memref.whole cc0_scratch0) (rXg (6 : Fin 7).succ) (fun _ => rfl) S512x512 squeezes_S1x512x512_S512x512 casts_xg fullShare
    (got X (W8 W) c (.x 6))) $$ HK
  iintro HK
  ihave HK := (Entails.of_eq (keep_x X c (W8 W) 6).symm) $$ HK
  ihave H := Hb $$ HK
  ihave Hx := (res_keep X W c st (.v t s) hw) $$ H
  icases Hx with ⟨HK, Hb⟩
  ihave HK := (Entails.of_eq (keep_v X c (W8 W) t s)) $$ HK
  iapply (wp_slot c (wb t) (rHalf t 6 s) (fun _ => rfl) ⟨2, ![512, hc t s]⟩ (sq_half t s) (casts_half t s) fullShare
    (got X (W8 W) c (.v t s))) $$ HK
  iintro HK
  ihave HK := (Entails.of_eq (keep_v X c (W8 W) t s).symm) $$ HK
  ihave H := Hb $$ HK
  iapply (wp_load_rect 𝒱₀ (c : Thread nD τ) none Set.univ (m := Memref.whole cc0_stg3_0) (r := rHcol t s) (S := Finset.univ) (q := fullShare) (f := O) (Finset.subset_univ _)) $$ Ho
  iintro Ho
  iapply (wp_store 𝒱₀ (c : Thread nD τ) none Set.univ (m := Memref.whole cc0_stg3_0) (r := rHcol t s) (Mk := Finset.univ) (S := Finset.univ) (f := O) (Finset.subset_univ _)) $$ Ho
  iintro Ho
  iapply Hk
  isplitl [H HO]
  · isplitl [H]; · iexact H
    iexact HO
  iexact Ho

/-! ## Lists -/

/-- A list of steps whose test succeeds, from what the device holds. -/
theorem steps_sound (sc : F .f32) {k : KProg F PUnit} {Q : PUnit → sProp 𝕄} (st' : St) : ∀ (l : List Step) (st : St)
    (O : (cc0_stg3_0 : Ref sig .tc).ty.Contents (Elt F)), run l st = some st' →
    iprop(recs X W K ∗ levAts L lv ∗ hold X W c st ∗ outR c O)
      ⊢ iprop(((hold X W c st' ∗ outR c (l.foldl (stepO X W c sc) O)) -∗ wpc c k Q) -∗ wpc c (steps c sc l k) Q)
  | [], st, O, h => by
    obtain rfl : st = st' := Option.some.inj h
    iintro ⟨#HR, #Hl, H⟩ Hk
    iapply Hk
    iexact H
  | i :: l, st, O, h => by
    obtain ⟨st₁, h₁, h₂⟩ := Option.bind_eq_some_iff.mp h
    have ih := fun O => steps_sound sc (k := k) (Q := Q) st' l st₁ O h₂
    show _ ⊢ iprop(_ -∗ wpc c (i.prog c sc >>= fun _ => steps c sc l k) Q)
    iintro ⟨#HR, #Hl, H, Ho⟩ Hk
    cases i with
    | send e =>
      unfold next at h₁
      obtain ⟨⟨h1, h2, h3⟩, h4⟩ := Option.ite_none_right_eq_some.mp h₁
      obtain rfl := Option.some.inj h4
      iapply (step_send X W K c st e h1 h2 h3 sc) $$ [H]
      · isplitr; · iexact HR
        iexact H
      iintro H
      iapply (ih O) $$ [H Ho]
      · isplitr; · iexact HR
        isplitr; · iexact Hl
        isplitl [H]; · iexact H
        iexact Ho
      iexact Hk
    | recv e =>
      unfold next at h₁
      obtain ⟨⟨h1, h2, h3⟩, h4⟩ := Option.ite_none_right_eq_some.mp h₁
      obtain rfl := Option.some.inj h4
      iapply (step_recv X W K c st e h1 h2 h3 sc) $$ [H]
      · isplitr; · iexact HR
        isplitr; · iexact Hl
        iexact H
      iintro H
      iapply (ih O) $$ [H Ho]
      · isplitr; · iexact HR
        isplitr; · iexact Hl
        isplitl [H]; · iexact H
        iexact Ho
      iexact Hk
    | done e =>
      unfold next at h₁
      obtain ⟨⟨h1, h2, h3⟩, h4⟩ := Option.ite_none_right_eq_some.mp h₁
      obtain rfl := Option.some.inj h4
      iapply (step_done X W K c st e h1 h2 h3 sc) $$ [H]
      · isplitr; · iexact HR
        isplitr; · iexact Hl
        iexact H
      iintro H
      iapply (ih O) $$ [H Ho]
      · isplitr; · iexact HR
        isplitr; · iexact Hl
        isplitl [H]; · iexact H
        iexact Ho
      iexact Hk
    | acc t m =>
      unfold next at h₁
      obtain ⟨⟨h1, h2⟩, h4⟩ := Option.ite_none_right_eq_some.mp h₁
      obtain rfl := Option.some.inj h4
      iapply (step_acc X W c st t m h1 h2 sc O) $$ [H Ho]
      · isplitl [H]; · iexact H
        iexact Ho
      iintro ⟨H, Ho⟩
      iapply (ih (accO X W c t m O)) $$ [H Ho]
      · isplitr; · iexact HR
        isplitr; · iexact Hl
        isplitl [H]; · iexact H
        iexact Ho
      iexact Hk
    | fin t s =>
      unfold next at h₁
      obtain ⟨⟨h1, h2⟩, h4⟩ := Option.ite_none_right_eq_some.mp h₁
      obtain rfl := Option.some.inj h4
      iapply (step_fin X W c st t s h1 h2 sc O) $$ [H Ho]
      · isplitl [H]; · iexact H
        iexact Ho
      iintro ⟨H, Ho⟩
      iapply (ih (finO X W c sc t s O)) $$ [H Ho]
      · isplitr; · iexact HR
        isplitr; · iexact Hl
        isplitl [H]; · iexact H
        iexact Ho
      iexact Hk

/-! ## The lists pass -/

/-- Once the first stripe of its own weight is stored, a device has that stripe's sources and all its row blocks'. -/
def stA : St := ⟨[Edge.w 0 0, .w 0 1, .w 0 3, .x 0, .x 1, .x 2, .x 3, .x 4, .x 5, .x 6].foldl put 0, 0, 0, 0⟩
/-- The sources a stripe of its own weight gives. -/
def rootsOf (t : Fin 3) : List Edge := [.w t 0, .w t 1, .w t 3]

def more (st : St) (l : List Edge) : St := { st with A := l.foldl put st.A }

def stB : St := (run sends1 stA).getD stA
def stC : St := (run sends2 (more stB (rootsOf 1))).getD stA
def stD : St := (run (rootSends 2) (more stC (rootsOf 2))).getD stA
/-- In the end everything was done. -/
def stE : St := ⟨2 ^ 31 - 1, 2 ^ 31 - 1, 2 ^ 31 - 1, 2 ^ 31 - 1⟩

theorem run_B : run sends1 stA = some stB := by decide +kernel
theorem fresh_B : fresh stB.A stB.S (rootsOf 1) = true := by decide +kernel
theorem run_C : run sends2 (more stB (rootsOf 1)) = some stC := by decide +kernel
theorem fresh_C : fresh stC.A stC.S (rootsOf 2) = true := by decide +kernel
theorem run_D : run (rootSends 2) (more stC (rootsOf 2)) = some stD := by decide +kernel
theorem run_E : run mainSteps stD = some stE := by decide +kernel

theorem has_all : ∀ e, has (2 ^ 31 - 1) e = true := by decide +kernel

end Step

end Cert.KernelIdeal.Tree

end
-- ==== Proof.Parts.lean ====
/-
The parts of the body around its lists of steps: a load and a store of a part of a buffer, the staging of a stripe of the
weight, its cast, and the word to the peers.
-/
module

public import proofs.«01_k».proof.Proof.Steps

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (X : Dev nD → Vec F S4096x512 .fp8e5m2) (W : Dev nD → Vec F S512x8192 .f32) (K : Dev nD × Ck → ℕ) (c : Dev nD)

/-! ## Loads and stores of a part -/

/-- A load of a part whose contents are held. -/
theorem wp_part {sp : CoreSpace} {s : Shape} {e : EltTy} (M : Memref sig .tc sp s e) (r : Rect s) (hr : ∀ a, r.stride a = 1)
    (q : PosShare TreeShare) (g : Vec F r.shape e) {hl : M.view.LoadsAt r.toLoadRect}
    {k : (r.shape.Idx → Elt F e) → KProg F PUnit} {Q : PUnit → sProp 𝕄} :
    (ownsTc c (M.slice r hr) q g : sProp 𝕄)
      ⊢ iprop((ownsTc c (M.slice r hr) q g -∗ wpc c (k g) Q) -∗ wpc c (.op (.load M r.toLoadRect hl) k) Q) := by
  iintro H Hk
  ihave H' := (show (ownsTc c (M.slice r hr) q g : sProp 𝕄)
    ⊢ iprop(∃ f, ⌜(M.slice r hr).view.read (Elt F) f = g⌝ ∗ ((M.slice r hr).view.loc (c : Thread nD τ) ↦[(M.slice r hr).view.set]{q} f)) from .rfl) $$ H
  icases H' with ⟨%f, %hf, H⟩
  iapply (wp_load_rect 𝒱₀ (c : Thread nD τ) none Set.univ (m := M) (r := r) (S := (M.slice r hr).view.set) (q := q) (f := f)
    (Finset.Subset.refl _)) $$ H
  iintro H
  rw [show (M.access r).read (Elt F) f = g from hf]
  iapply Hk
  iapply (Entails.of_eq (owns_eq c (M.slice r hr) q hf).symm)
  iexact H

/-- A load of a part whose contents are not looked at. -/
theorem wp_peek {sp : CoreSpace} {s : Shape} {e : EltTy} (M : Memref sig .tc sp s e) (r : Rect s) (hr : ∀ a, r.stride a = 1)
    {hl : M.view.LoadsAt r.toLoadRect} {k : KProg F PUnit} {Q : PUnit → sProp 𝕄} :
    (room (F := F) c (M.slice r hr) : sProp 𝕄)
      ⊢ iprop((room (F := F) c (M.slice r hr) -∗ wpc c k Q) -∗ wpc c (.op (.load M r.toLoadRect hl) fun _ => k) Q) := by
  iintro H Hk
  ihave H' := (show (room (F := F) c (M.slice r hr) : sProp 𝕄)
    ⊢ iprop(∃ f, (M.slice r hr).view.loc (c : Thread nD τ) ↦[(M.slice r hr).view.set]{fullShare} f) from .rfl) $$ H
  icases H' with ⟨%f, H⟩
  iapply (wp_load_rect 𝒱₀ (c : Thread nD τ) none Set.univ (m := M) (r := r) (S := (M.slice r hr).view.set) (q := fullShare) (f := f)
    (k := fun _ => k) (Finset.Subset.refl _)) $$ H
  iintro H
  iapply Hk
  iapply (show iprop(∃ f, (M.slice r hr).view.loc (c : Thread nD τ) ↦[(M.slice r hr).view.set]{fullShare} f) ⊢ (room (F := F) c (M.slice r hr) : sProp 𝕄) from .rfl)
  iexists f; iexact H

/-- A store of a part. -/
theorem wp_put {sp : CoreSpace} {s : Shape} {e : EltTy} (M : Memref sig .tc sp s e) (r : Rect s) (hr : ∀ a, r.stride a = 1)
    (w : Vec F r.shape e) {h1 : (M.access r).Stores Finset.univ} {h2} {k : PUnit → KProg F PUnit} {Q : PUnit → sProp 𝕄} :
    (room (F := F) c (M.slice r hr) : sProp 𝕄)
      ⊢ iprop((ownsTc c (M.slice r hr) fullShare w -∗ wpc c (k ⟨⟩) Q) -∗ wpc c (.op (.store M r w Finset.univ h1 h2) k) Q) := by
  iintro H Hk
  ihave H' := (show (room (F := F) c (M.slice r hr) : sProp 𝕄)
    ⊢ iprop(∃ f, (M.slice r hr).view.loc (c : Thread nD τ) ↦[(M.slice r hr).view.set]{fullShare} f) from .rfl) $$ H
  icases H' with ⟨%f, H⟩
  iapply (wp_store 𝒱₀ (c : Thread nD τ) none Set.univ (m := M) (r := r) (Mk := Finset.univ) (S := (M.slice r hr).view.set) (f := f)
    (Finset.Subset.refl _)) $$ H
  iintro H
  iapply Hk
  iapply (Entails.of_eq (owns_eq c (M.slice r hr) fullShare (X := w) (View.read_write_univ f w)).symm)
  iexact H

/-! ## Staging -/

theorem tOf_val : ∀ t : Fin 3, tOf t.val = t := by decide

theorem wp_stage (t : Fin 3) {k : KProg F PUnit} {Q : PUnit → sProp 𝕄} :
    iprop(recs X W K ∗ ownsTc c (inM t) fullShare (wCol W c t) ∗ room (F := F) c (stgM t) ∗ dutyTok ER (cell c stgC) t.val 0
        ∗ reached ER (cell c stgC) t.val)
      ⊢ iprop((cred (tallyAt (cell c stgC) () (Nst t)) -∗ wpc c k Q) -∗ wpc c (stage t >>= fun _ => k) Q) := by
  iintro ⟨#HR, HS, Hr, Ht, Hre⟩ Hk
  ihave Hr' := (show (room (F := F) c (stgM t) : sProp 𝕄)
    ⊢ iprop(∃ f, (stgM t).view.loc (c : Thread nD τ) ↦[(stgM t).view.set]{fullShare} f) from .rfl) $$ Hr
  icases Hr' with ⟨%fd, Hd⟩
  ihave HS' := (show (ownsTc c (inM t) fullShare (wCol W c t) : sProp 𝕄) ⊢ iprop(∃ f, ⌜(inM t).view.read (Elt F) f = wCol W c t⌝
    ∗ ((inM t).view.loc (c : Thread nD τ) ↦[(inM t).view.set]{fullShare} f)) from .rfl) $$ HS
  icases HS' with ⟨%fs, %hfs, HS⟩
  iapply (Rounds.wp_copy_pointsTo 𝒱₀ ER (Rd X W) (c : Thread nD τ) none (κ := K (c, stgC)) (r := t.val) (d := 0) (fd := fd) (fs := fs) (q := fullShare)
    (k := fun _ => k) (src := inM t) (dst := stgM t) (sem := .dma cc0_scratch6.sem)
    (by rw [show ((c : Thread nD τ), SemLoc.dma cc0_scratch6.sem) = cell c stgC from rfl, duties_stg X W c t.val t.isLt]; exact Finset.mem_singleton_self _)
    () (Nst t) rfl ((amount_cell X W c stgC t.val 0).trans (congrArg Nst (tOf_val t)))
    (by rw [show ((c : Thread nD τ), SemLoc.dma cc0_scratch6.sem) = cell c stgC from rfl, payload_cell]
        show _ ⊢ iprop(ownsTc c (stgM (tOf t.val)) fullShare (wCol W c (tOf t.val)) ∗ ownsTc c (inM (tOf t.val)) fullShare (wCol W c (tOf t.val)))
        rw [tOf_val, owns_eq c (inM t) fullShare hfs, owns_eq c (stgM t) fullShare ((View.read_write_univ _ _).trans hfs)])) $$ [HS Hd Ht Hre]
  · isplitr; · iapply (recs_inv X W K c stgC); iexact HR
    isplitl [HS]; · iexact HS
    isplitl [Hd]; · iexact Hd
    isplitl [Ht]; · iexact Ht
    iexact Hre
  iexact Hk

theorem wp_staged (t : Fin 3) (S : ℕ) {B : Waits sig Unit} {k : KProg F PUnit} {Q : PUnit → sProp 𝕄} :
    iprop(recs X W K ∗ levAts L lv ∗ cred (tallyAt (cell c stgC) () (Nst t)) ∗ owes (c : Thread nD τ) (owed c S) B
        ∗ atPos ER (cell c stgC) t.val ∅ 0)
      ⊢ iprop((((∃ B, owes (c : Thread nD τ) (owed c S) B) ∗ atPos ER (cell c stgC) (t.val + 1) ∅ 0 ∗ reached ER (cell c stgC) (t.val + 1)
          ∗ ownsTc c (stgM t) fullShare (wCol W c t) ∗ ownsTc c (inM t) fullShare (wCol W c t)) -∗ wpc c k Q) -∗ wpc c (staged t >>= fun _ => k) Q) := by
  iintro ⟨#HR, #Hl, Hc, HO, Hat⟩ Hk
  iapply (Rounds.wp_wait_rest_token 𝒱₀ ER (Rd X W) (c : Thread nD τ) none (κ := K (c, stgC))
    (w := .waitDma2 cc0_scratch6.sem (inM t) (stgM t) (View.wordExact_bits rfl) (View.wordExact_bits rfl)) (k := fun _ => k)
    (wpE_waitDma2_eq 𝒱₀ (c : Thread nD τ) none Set.univ) (Set.mem_univ _) ()
    (O := owed c S) (W := B) (R := t.val) (m := 0) (T := ∅)
    (by rw [show ((c : Thread nD τ), SemLoc.dma cc0_scratch6.sem) = cell c stgC from rfl, expect_stg X W c t.val t.isLt, Nat.zero_add, tOf_val])) $$ [Hc HO Hat]
  · isplitr; · iapply (recs_inv X W K c stgC); iexact HR
    isplitl [Hc]; · iexact Hc
    isplitl [HO]; · iexact HO
    isplitr; · iapply (mayWait_owed c stgC (fun e _ => lvE_pos e)); iexact Hl
    iexact Hat
  iintro ⟨HO, Hat, Hre, Hp⟩
  ihave Hp' := (Entails.of_eq (show bigSep ((Rd X W).duties ((c : Thread nD τ), SemLoc.dma cc0_scratch6.sem) t.val \ ∅) (fun d => (Rd X W).payload ((c : Thread nD τ), SemLoc.dma cc0_scratch6.sem) t.val d)
      = iprop(ownsTc c (stgM t) fullShare (wCol W c t) ∗ ownsTc c (inM t) fullShare (wCol W c t)) from
    (rest_stg X W c t.val t.isLt).trans (by rw [tOf_val]))) $$ Hp
  iapply Hk
  isplitl [HO]; · iexists _; iexact HO
  isplitl [Hat]; · iexact Hat
  isplitl [Hre]; · iexact Hre
  iexact Hp'

/-- After its third round the staging semaphore is at zero for good. -/
theorem stg_close : iprop(recs X W K ∗ atPos ER (cell c stgC) 3 ∅ 0) ⊢ |={Set.univ}=> (semVal (cell c stgC) 0 : sProp 𝕄) := by
  iintro ⟨#HR, Hat⟩
  iapply (Rounds.cell_close ER (Rd X W) (Es := Set.univ) (κ := K (c, stgC)) (Set.mem_univ _) (fun h => h) (later_stg X W c)) $$ [Hat]
  isplitr; · iapply (recs_inv X W K c stgC); iexact HR
  iexact Hat

/-! ## The cast -/

theorem payCast_wCol : ∀ t, payCast t (wCol W c t) = fun i => W8 W c ((rCol t).idx i)
  | 0 => (show k0_pay1 (wCol W c 0) = _ by unfold k0_pay1; exact (shapeCast_self _ _).trans rfl)
  | 1 => (show k0_pay2 (wCol W c 1) = _ by unfold k0_pay2; exact (shapeCast_self _ _).trans rfl)
  | 2 => (show k0_pay2 (wCol W c 2) = _ by unfold k0_pay2; exact (shapeCast_self _ _).trans rfl)

theorem wp_castIn (t : Fin 3) {k : KProg F PUnit} {Q : PUnit → sProp 𝕄} :
    iprop(ownsTc c (stgM t) fullShare (wCol W c t) ∗ room (F := F) c (colM t))
      ⊢ iprop(((ownsTc c (stgM t) fullShare (wCol W c t) ∗ ownsTc c (colM t) fullShare (fun i => W8 W c ((rCol t).idx i))) -∗ wpc c k Q)
          -∗ wpc c (castIn t >>= fun _ => k) Q) := by
  unfold castIn
  simp only [Prog.lift, Prog.bind_op, Prog.bind_ret, bind_assoc]
  iintro ⟨H1, H2⟩ Hk
  iapply (wp_part c (Memref.whole cc0_scratch1) (rStg t) (fun _ => rfl) fullShare (wCol W c t)) $$ H1
  iintro H1
  iapply (wp_peek c (Memref.whole cc0_scratch2) (rCol t) (fun _ => rfl)) $$ H2
  iintro H2
  rw [payCast_wCol]
  iapply (wp_put c (Memref.whole cc0_scratch2) (rCol t) (fun _ => rfl) (fun i => W8 W c ((rCol t).idx i))) $$ H2
  iintro H2
  iapply Hk
  isplitl [H1]; · iexact H1
  iexact H2

theorem par_roots : ∀ t : Fin 3, par t 0 = none ∧ par t 1 = none ∧ par t 3 = none := by decide

/-- The columns of the device's own weight are a share to read and the sources of its sends. -/
theorem root_sources (V : Dev nD → Vec F S512x8192 .fp8e5m2) (t : Fin 3) :
    (ownsTc c (colM t) fullShare (fun i => V c ((rCol t).idx i)) : sProp 𝕄)
      = iprop(ownsTc c (colM t) fullShare.left (fun i => V c ((rCol t).idx i)) ∗ bigSepL (rootsOf t) (Src X V c)) := by
  have h3 : (ownsTc c (colM t) fullShare.right (fun i => V c ((rCol t).idx i)) : sProp 𝕄)
      = iprop(ownsTc c (colM t) (Ring.shares3 fullShare.right 0) (fun i => V c ((rCol t).idx i))
        ∗ ownsTc c (colM t) (Ring.shares3 fullShare.right 1) (fun i => V c ((rCol t).idx i))
        ∗ ownsTc c (colM t) (Ring.shares3 fullShare.right 2) (fun i => V c ((rCol t).idx i))) := by
    rw [owns_share c (colM t) fullShare.right, owns_share c (colM t) fullShare.right.right]; rfl
  have hm : ∀ m : Fin 6, par t m = none → ∀ q, sendQ (.w t m) = q →
      (Src X V c (.w t m) : sProp 𝕄) = ownsTc c (colM t) q (fun i => V c ((rCol t).idx i)) := by
    intro m hp q hq
    unfold Src
    rw [hq, sent_root X V c t m hp]
    have e : src c (.w t m) = colM t := by
      show (match par t m with | none => colM t | some p => slotM t p.castSucc : Memref sig .tc .vmem _ .fp8e5m2) = _
      rw [hp]
    rw [e]
    rfl
  have h0 := par_roots t
  rw [owns_share, h3]
  unfold rootsOf
  rw [bigSepL_cons', bigSepL_cons', bigSepL_singleton,
    hm 0 h0.1 (Ring.shares3 fullShare.right 0) (by fin_cases t <;> rfl), hm 1 h0.2.1 (Ring.shares3 fullShare.right 1) (by fin_cases t <;> rfl),
    hm 3 h0.2.2 (Ring.shares3 fullShare.right 2) (by fin_cases t <;> rfl)]

/-! ## The word to the peers -/

/-- The peers in the order they are told. -/
def devs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩,
   ⟨k0_dev5 c, k0_dev5_lt c⟩, ⟨k0_dev6 c, k0_dev6_lt c⟩, ⟨k0_dev7 c, k0_dev7_lt c⟩]

theorem devs_ne : ∀ c, ∀ d ∈ devs c, c ≠ d := by decide +kernel
theorem devs_nodup : ∀ c, (devs c).Nodup := by decide +kernel
theorem devs_all : ∀ c, Finset.univ.erase c = (devs c).toFinset := by decide +kernel

def signals : List (Dev nD) → KProg F PUnit → KProg F PUnit
  | [], k => k
  | d :: l, k => semSignalWord d barSem 1#32 >>= fun _ => signals l k

/-- What a device owes while `l` are still to be told. -/
def toTell (O : CellTallies nD τ sig Unit) : List (Dev nD) → CellTallies nD τ sig Unit
  | [] => O
  | d :: l => toTell O l + tallyAt (cell d barC) () 1

theorem signals_sound (O : CellTallies nD τ sig Unit) {B : Waits sig Unit} {k : KProg F PUnit} {Q : PUnit → sProp 𝕄} :
    ∀ l : List (Dev nD), (∀ d ∈ l, c ≠ d) →
    iprop(recs X W K ∗ bigSepL l (fun d => iprop(payK X W d 0 c barC ∗ dutyTok ER (cell d barC) 0 c)) ∗ owes (c : Thread nD τ) (toTell O l) B)
      ⊢ iprop((owes (c : Thread nD τ) O B -∗ wpc c k Q) -∗ wpc c (signals l k) Q)
  | [], _ => by
    iintro ⟨#HR, -, HO⟩ Hk
    iapply Hk
    iexact HO
  | d :: l, h => by
    rw [bigSepL_cons']
    show _ ⊢ iprop(_ -∗ wpc c (semSignalWord d barSem 1#32 >>= fun _ => signals l k) Q)
    iintro ⟨#HR, ⟨⟨Hp, Ht⟩, Hl⟩, HO⟩ Hk
    iapply (Rounds.wp_signal 𝒱₀ ER (Rd X W) (c : Thread nD τ) none (dst := (d : Thread nD τ)) (κ := K (d, barC)) (d := c)
      (k := fun _ => signals l k) (sem := barSem)
      (by rw [show (((d : Dev nD) : Thread nD τ), SemLoc.reg barSem) = cell d barC from rfl, duties_bar]
          exact Finset.mem_erase.mpr ⟨h d List.mem_cons_self, Finset.mem_univ _⟩)
      ((amount_cell X W d barC 0 c).trans (by decide)) () (toTell O l) rfl) $$ [HO Ht Hp]
    · isplitr; · iapply (recs_inv X W K d barC); iexact HR
      isplitl [HO]; · iexact HO
      isplitl [Ht]; · iexact Ht
      isplitl [Hp]
      · iapply (Entails.of_eq (show payK X W d 0 c barC = (Rd X W).payload (((d : Dev nD) : Thread nD τ), SemLoc.reg barSem) 0 c from (payload_cell X W d barC 0 c).symm)); iexact Hp
      iapply (recs_reached X W K d barC); iexact HR
    iintro HO
    iapply (signals_sound O l (fun d hd => h d (List.mem_cons_of_mem _ hd))) $$ [Hl HO]
    · isplitr; · iexact HR
      isplitl [Hl]; · iexact Hl
      iexact HO
    iexact Hk

theorem lvE_one : ∀ e, 1 < lvE e := by decide

/-- The wait for the peers' word: every landing place the device writes comes with it. -/
theorem wp_heard {B : Waits sig Unit} {k : KProg F PUnit} {Q : PUnit → sProp 𝕄} :
    iprop(recs X W K ∗ levAts L lv ∗ cred (tallyAt (cell c barC) () 7) ∗ owes (c : Thread nD τ) (owed c 0) B ∗ atPos ER (cell c barC) 0 ∅ 0)
      ⊢ iprop((((∃ B, owes (c : Thread nD τ) (owed c 0) B) ∗ semVal (cell c barC) 0 ∗ bigSep Finset.univ fun e => room (F := F) (peer c e) (dst e)) -∗ wpc c k Q)
          -∗ wpc c (semWaitWord barSem 7#32 >>= fun _ => k) Q) := by
  iintro ⟨#HR, #Hl, Hc, HO, Hat⟩ Hk
  iapply (Rounds.wp_wait_rest_token 𝒱₀ ER (Rd X W) (c : Thread nD τ) none (κ := K (c, barC)) (k := fun _ => k)
    (wpE_semWait_eq 𝒱₀ (c : Thread nD τ) none Set.univ) (Set.mem_univ _) () (sm := .reg barSem)
    (O := owed c 0) (W := B) (R := 0) (m := 0) (T := ∅)
    (by rw [show ((c : Thread nD τ), SemLoc.reg barSem) = cell c barC from rfl, expect_bar]; decide)) $$ [Hc HO Hat]
  · isplitr; · iapply (recs_inv X W K c barC); iexact HR
    isplitl [Hc]; · iexact Hc
    isplitl [HO]; · iexact HO
    isplitr; · iapply (mayWait_owed c barC (fun e _ => lvE_one e)); iexact Hl
    iexact Hat
  iintro ⟨HO, Hat, -, Hp⟩
  ihave Hv := (Rounds.cell_close ER (Rd X W) (Es := Set.univ) (κ := K (c, barC)) (Set.mem_univ _) (fun h => h) (later_bar X W c)) $$ [Hat]
  · isplitr; · iapply (recs_inv X W K c barC); iexact HR
    iexact Hat
  imod Hv
  iapply Hk
  isplitl [HO]; · iexists _; iexact HO
  isplitl [Hv]; · iexact Hv
  ihave Hp' := (show bigSep ((Rd X W).duties ((c : Thread nD τ), SemLoc.reg barSem) 0 \ ∅) (fun d => (Rd X W).payload ((c : Thread nD τ), SemLoc.reg barSem) 0 d)
    ⊢ (bigSep Finset.univ fun e => room (F := F) (peer c e) (dst e) : sProp 𝕄) from rest_bar X W c) $$ Hp
  iexact Hp'

end Parts

end Cert.KernelIdeal.Tree

end
-- ==== Proof.Whole.lean ====
/-
Whole buffers and their parts: the landing places out of the landing buffers, the row blocks out of `x`, the stripes out of
the weight, and all of them back together.
-/
module

public import proofs.«01_k».proof.Proof.Parts

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Separating conjunctions -/

section Sep

variable {M : Type} [URA M]

theorem bigSepL_flatMap {I J : Type} (g : I → List J) (Φ : J → sProp M) : ∀ l : List I,
    bigSepL (l.flatMap g) Φ = bigSepL l fun i => bigSepL (g i) Φ
  | [] => rfl
  | i :: l => by
    rw [List.flatMap_cons, bigSepL_append, bigSepL_cons', bigSepL_flatMap g Φ l]

theorem bigSep_two {α β : Type} [Fintype α] [Fintype β] (Φ : α ⊕ β → sProp M) :
    bigSep Finset.univ Φ = iprop(bigSep Finset.univ (fun a => Φ (.inl a)) ∗ bigSep Finset.univ (fun b => Φ (.inr b))) := bigSep_univ_sum Φ

theorem sep_swap (P Q R : sProp M) : iprop(P ∗ Q ∗ R) = iprop(Q ∗ P ∗ R) := by
  have h : ∀ P Q R : sProp M, iprop(P ∗ Q ∗ R) ⊢ iprop(Q ∗ P ∗ R) := fun P Q R => by
    iintro ⟨H1, H2, H3⟩; isplitl [H2]; · iexact H2
    isplitl [H1]; · iexact H1
    iexact H3
  exact BI.equiv_iff.mp ⟨h P Q R, h Q P R⟩

theorem sep_group (P Q R : sProp M) : iprop((P ∗ Q) ∗ R) = iprop(P ∗ Q ∗ R) := by
  have h1 : iprop((P ∗ Q) ∗ R) ⊢ iprop(P ∗ Q ∗ R) := by
    iintro ⟨⟨H1, H2⟩, H3⟩; isplitl [H1]; · iexact H1
    isplitl [H2]; · iexact H2
    iexact H3
  have h2 : iprop(P ∗ Q ∗ R) ⊢ iprop((P ∗ Q) ∗ R) := by
    iintro ⟨H1, H2, H3⟩; isplitr [H3]
    · isplitl [H1]; · iexact H1
      iexact H2
    iexact H3
  exact BI.equiv_iff.mp ⟨h1, h2⟩

/-- All transfers, by kind. -/
theorem bigSep_edges (Φ : Edge → sProp M) : bigSep Finset.univ Φ
    = iprop(bigSep Finset.univ (fun u => Φ (.x u)) ∗ bigSep Finset.univ fun t : Fin 3 =>
        iprop(bigSep Finset.univ (fun m => Φ (.w t m)) ∗ bigSep Finset.univ (fun s => Φ (.v t s)))) := by
  rw [bigSep_univ_equiv Edge.equiv, bigSep_two, bigSep_two, bigSep_univ_prod, bigSep_univ_prod, bigSep_sep']
  rfl

/-- The transfers of a device's own row blocks, -/
def xs : List Edge := [.x 0, .x 1, .x 2, .x 3, .x 4, .x 5, .x 6]
/-- and all transfers. -/
def allE : List Edge := xs ++ ([0, 1, 2] : List (Fin 3)).flatMap fun t => [.w t 0, .w t 1, .w t 2, .w t 3, .w t 4, .w t 5, .v t false, .v t true]

theorem allE_all : (Finset.univ : Finset Edge) = allE.toFinset := by decide +kernel
theorem allE_nodup : allE.Nodup := by decide +kernel

/-- All transfers are those of the own row blocks, of the own weight, and those passed on. -/
theorem bigSep_from (Φ : Edge → sProp M) : bigSep Finset.univ Φ
    = iprop(bigSepL xs Φ ∗ bigSepL (rootsOf 0) Φ ∗ bigSepL (rootsOf 1) Φ ∗ bigSepL (rootsOf 2) Φ ∗ bigSepL allE fun e => bigSepL (kidsOf e) Φ) := by
  rw [bigSep_univ_eq_bigSepL (xs ++ (rootsOf 0 ++ (rootsOf 1 ++ (rootsOf 2 ++ allE.flatMap kidsOf)))) (by decide +kernel) (by decide +kernel),
    bigSepL_append, bigSepL_append, bigSepL_append, bigSepL_append, bigSepL_flatMap]

end Sep

/-! ## Rooms -/

section Rooms

variable (c : Dev nD)

section

variable {sp : Space} {sh : Shape} {e : EltTy} (m : Memref sig .tc sp sh e)

theorem room_squeeze (sh' : Shape) (hq : sh.Squeezes sh') : (room (F := F) c (m.squeeze sh' hq) : sProp 𝕄) = room (F := F) c m := by
  unfold room
  rw [show (m.squeeze sh' hq).view.set = m.view.set from View.set_reshape _ _]

variable {T : Type} [Fintype T] [DecidableEq T] (r : T → Rect sh) (hr : ∀ t a, (r t).stride a = 1)
  (hd : ∀ t t', t ≠ t' → Disjoint (r t).set (r t').set)
  (hcov : ∀ i, ∃ t, i ∈ (r t).set)

include hd hcov in
theorem room_cut (f₀ : Buf (Elt F) (m.view.loc (c : Thread nD τ))) :
    (room (F := F) c m : sProp 𝕄) = bigSep Finset.univ fun t => room (F := F) c (m.slice (r t) (hr t)) := by
  refine BI.equiv_iff.mp ⟨?_, show bigSep Finset.univ (fun t => room (F := F) c (m.slice (r t) (hr t))) ⊢ (room (F := F) c m : sProp 𝕄) from
    uncut c m fullShare r hd hcov f₀⟩
  show (room (F := F) c m : sProp 𝕄) ⊢ _
  unfold room
  iintro ⟨%f, H⟩
  ihave H' := (Entails.of_eq (cut c m fullShare r hd hcov f)) $$ H
  iapply (show bigSep Finset.univ (fun t => m.view.loc (c : Thread nD τ) ↦[(m.view.slice (r t)).set]{fullShare} f)
      ⊢ (bigSep Finset.univ fun t => room (F := F) c (m.slice (r t) (hr t)) : sProp 𝕄) from
    bigSep_mono fun t _ => by
      show (m.view.loc (c : Thread nD τ) ↦[(m.view.slice (r t)).set]{fullShare} f : sProp 𝕄) ⊢ room (F := F) c (m.slice (r t) (hr t))
      unfold room
      iintro H
      iexists f
      iexact H)
  iexact H'

include hd hcov in
theorem owns_cut (q : PosShare TreeShare) (f : m.view.ty.Contents (Elt F)) :
    (ownsTc c m q (m.view.read (Elt F) f) : sProp 𝕄)
      = bigSep Finset.univ fun t => ownsTc c (m.slice (r t) (hr t)) q (fun i => m.view.read (Elt F) f ((r t).idx i)) := by
  rw [owns_eq c m q rfl, cut c m q r hd hcov f]
  exact bigSep_congr fun t _ => (owns_eq c (m.slice (r t) (hr t)) q rfl).symm

end

theorem room_whole (b : Ref sig .tc) :
    (room (F := F) c (Memref.whole b) : sProp 𝕄) = iprop(∃ f : Buf (Elt F) ((c : Thread nD τ).loc b), ((c : Thread nD τ).loc b) ↦{fullShare} f) := by
  unfold room
  rw [show (Memref.whole b).view.set = Finset.univ from View.set_whole _]

/-- Some contents of a landing buffer. -/
def wbBuf : (t : Fin 3) → Buf (Elt F) ((wb t).view.loc (c : Thread nD τ))
  | 0 => fun _ => (Scalar.ofBits .fp8e5m2 0 : Elt F .fp8e5m2)
  | 1 => fun _ => (Scalar.ofBits .fp8e5m2 0 : Elt F .fp8e5m2)
  | 2 => fun _ => (Scalar.ofBits .fp8e5m2 0 : Elt F .fp8e5m2)

theorem wb_cut (t : Fin 3) : (room (F := F) c (wb t) : sProp 𝕄)
    = iprop(bigSep Finset.univ (fun m => room (F := F) c (dst (.w t m))) ∗ bigSep Finset.univ (fun s => room (F := F) c (dst (.v t s)))) := by
  have h : ∀ f₀ : Buf (Elt F) ((wb t).view.loc (c : Thread nD τ)), (room (F := F) c (wb t) : sProp 𝕄) = _ := fun f₀ =>
    room_cut c (wb t) (wbR t) (fun a => by cases a <;> exact fun _ => rfl) (wbR_disjoint t) (wbR_cover t) f₀
  rw [h (wbBuf c t), bigSep_two]
  exact congrArg₂ (fun P Q : sProp 𝕄 => iprop(P ∗ Q))
    (bigSep_congr fun m _ => (room_squeeze c ((wb t).slice (rSlot t m.castSucc) (fun _ => rfl)) _ (sq_slot t)).symm)
    (bigSep_congr fun s _ => (room_squeeze c ((wb t).slice (rHalf t 6 s) (fun _ => rfl)) _ (sq_half t s)).symm)

theorem xg_cut : (room (F := F) c (Memref.whole cc0_scratch0) : sProp 𝕄)
    = iprop(room (F := F) c ((Memref.whole cc0_scratch0).slice (rXg 0) (fun _ => rfl)) ∗ bigSep Finset.univ (fun u => room (F := F) c (dst (.x u)))) := by
  rw [room_cut c (Memref.whole cc0_scratch0) rXg (fun _ _ => rfl) xgR_disjoint xgR_cover (fun _ => (Scalar.ofBits .fp8e5m2 0 : Elt F .fp8e5m2)),
    bigSep_univ_eq_bigSepL ([0, 1, 2, 3, 4, 5, 6, 7] : List (Fin 8)) (by decide) (by decide),
    bigSep_univ_eq_bigSepL ([0, 1, 2, 3, 4, 5, 6] : List (Fin 7)) (by decide) (by decide), bigSepL_cons',
    show ([1, 2, 3, 4, 5, 6, 7] : List (Fin 8)) = ([0, 1, 2, 3, 4, 5, 6] : List (Fin 7)).map Fin.succ from rfl, bigSepL_map]
  refine congrArg (fun P : sProp 𝕄 => iprop(_ ∗ P)) (congrArg (bigSepL _) (funext fun u => ?_))
  exact (room_squeeze c ((Memref.whole cc0_scratch0).slice (rXg u.succ) (fun _ => rfl)) _ squeezes_S1x512x512_S512x512).symm

/-- The landing buffers are slot 0 of the row blocks and every landing place. -/
theorem rooms_eq : iprop(room (F := F) c (Memref.whole cc0_scratch0) ∗ room (F := F) c (wb 0) ∗ room (F := F) c (wb 1) ∗ room (F := F) c (wb 2))
    = (iprop(room (F := F) c ((Memref.whole cc0_scratch0).slice (rXg 0) (fun _ => rfl)) ∗ bigSep Finset.univ fun e => room (F := F) c (dst e)) : sProp 𝕄) := by
  rw [bigSep_edges (fun e => (room (F := F) c (dst e) : sProp 𝕄)), xg_cut, sep_group, wb_cut, wb_cut, wb_cut,
    bigSep_univ_eq_bigSepL ([0, 1, 2] : List (Fin 3)) (by decide) (by decide), bigSepL_cons', bigSepL_cons', bigSepL_singleton]

theorem peers_image : ∀ c : Dev nD, Finset.univ.image (peer c) = (devs c).toFinset := by decide +kernel

/-- Every landing place is for one peer. -/
theorem rooms_to (X : Dev nD → Vec F S4096x512 .fp8e5m2) (W : Dev nD → Vec F S512x8192 .f32) :
    (bigSep Finset.univ fun e => room (F := F) c (dst e) : sProp 𝕄) = bigSepL (devs c) fun d => payK X W d 0 c barC := by
  rw [bigSep_fiberwise Finset.univ (peer c), peers_image,
    bigSep_eq_bigSepL_of_eq (devs c) rfl (devs_nodup c)]
  rfl

/-- `x`'s staging is the own row block and the sources of the others. -/
theorem x_cut (X : Dev nD → Vec F S4096x512 .fp8e5m2) (V : Dev nD → Vec F S512x8192 .fp8e5m2) :
    (ownsTc c (Memref.whole cc0_stg0_0) fullShare (X c) : sProp 𝕄)
      = iprop(ownsTc c ((Memref.whole cc0_stg0_0).slice (rOwn c) (fun _ => rfl)) fullShare (fun i => X c ((rOwn c).idx i)) ∗ bigSepL xs (Src X V c)) := by
  rw [show (ownsTc c (Memref.whole cc0_stg0_0) fullShare (X c) : sProp 𝕄) = _ from
      owns_cut c (Memref.whole cc0_stg0_0) (xR c) (fun t => by cases t <;> exact fun _ => rfl) (xR_disjoint c) (xR_cover c) fullShare (X c),
    bigSep_univ_eq_bigSepL ([none, some 0, some 1, some 2, some 3, some 4, some 5, some 6] : List (Option (Fin 7))) (by decide) (by decide), bigSepL_cons',
    show xs = ([0, 1, 2, 3, 4, 5, 6] : List (Fin 7)).map Edge.x from rfl, bigSepL_map,
    show ([some 0, some 1, some 2, some 3, some 4, some 5, some 6] : List (Option (Fin 7))) = ([0, 1, 2, 3, 4, 5, 6] : List (Fin 7)).map some from rfl, bigSepL_map]
  refine congrArg (fun P : sProp 𝕄 => iprop(_ ∗ P)) (congrArg (bigSepL _) (funext fun u => ?_))
  unfold Src
  rw [sent_x]
  rfl

theorem col_cut (q : PosShare TreeShare) (Y : Vec F S512x8192 .fp8e5m2) :
    (ownsTc c (Memref.whole cc0_scratch2) q Y : sProp 𝕄)
      = iprop(ownsTc c (colM 0) q (fun i => Y ((rCol 0).idx i)) ∗ ownsTc c (colM 1) q (fun i => Y ((rCol 1).idx i)) ∗ ownsTc c (colM 2) q (fun i => Y ((rCol 2).idx i))) := by
  rw [show (ownsTc c (Memref.whole cc0_scratch2) q Y : sProp 𝕄) = _ from
      owns_cut c (Memref.whole cc0_scratch2) rCol (fun _ _ => rfl) colR_disjoint colR_cover q Y,
    bigSep_univ_eq_bigSepL ([0, 1, 2] : List (Fin 3)) (by decide) (by decide), bigSepL_cons', bigSepL_cons', bigSepL_singleton]
  rfl

theorem in_cut (W : Dev nD → Vec F S512x8192 .f32) :
    (ownsTc c (Memref.whole main_arg1) fullShare (W c) : sProp 𝕄)
      = iprop(ownsTc c (inM 0) fullShare (wCol W c 0) ∗ ownsTc c (inM 1) fullShare (wCol W c 1) ∗ ownsTc c (inM 2) fullShare (wCol W c 2)) := by
  rw [show (ownsTc c (Memref.whole main_arg1) fullShare (W c) : sProp 𝕄) = _ from
      owns_cut c (Memref.whole main_arg1) rCol (fun _ _ => rfl) colR_disjoint colR_cover fullShare (W c),
    bigSep_univ_eq_bigSepL ([0, 1, 2] : List (Fin 3)) (by decide) (by decide), bigSepL_cons', bigSepL_cons', bigSepL_singleton]
  rfl

theorem w8_room : (room (F := F) c (Memref.whole cc0_scratch2) : sProp 𝕄)
    = iprop(room (F := F) c (colM 0) ∗ room (F := F) c (colM 1) ∗ room (F := F) c (colM 2)) := by
  rw [room_cut c (Memref.whole cc0_scratch2) rCol (fun _ _ => rfl) colR_disjoint colR_cover (fun _ => (Scalar.ofBits .fp8e5m2 0 : Elt F .fp8e5m2)),
    bigSep_univ_eq_bigSepL ([0, 1, 2] : List (Fin 3)) (by decide) (by decide), bigSepL_cons', bigSepL_cons', bigSepL_singleton]

/-- What of the staging buffer a stripe leaves aside. -/
def aside (t : Fin 3) : sProp 𝕄 :=
  iprop(∃ f : Buf (Elt F) ((c : Thread nD τ).loc cc0_scratch1), ((c : Thread nD τ).loc cc0_scratch1) ↦[Finset.univ \ (stgM t).view.set]{fullShare} f)

theorem stg_take (t : Fin 3) : (room (F := F) c (Memref.whole cc0_scratch1) : sProp 𝕄) ⊢ iprop(room (F := F) c (stgM t) ∗ aside (F := F) c t) := by
  rw [room_whole]
  unfold room aside
  iintro ⟨%f, H⟩
  ihave H' := (pointsTo_split_subset (Finset.subset_univ (stgM t).view.set)).1 $$ H
  icases H' with ⟨H1, H2⟩
  isplitl [H1]
  · iexists f; iexact H1
  · iexists f; iexact H2

theorem stg_give (t : Fin 3) : iprop(room (F := F) c (stgM t) ∗ aside (F := F) c t) ⊢ (room (F := F) c (Memref.whole cc0_scratch1) : sProp 𝕄) := by
  rw [room_whole]
  unfold room aside
  iintro ⟨⟨%f, H1⟩, ⟨%g, H2⟩⟩
  iexists _
  iapply (pointsTo_join_subset (ℓ := (c : Thread nD τ).loc cc0_scratch1) (Finset.subset_univ (stgM t).view.set) (g := f) (f := g))
  isplitl [H1]; · iexact H1
  iexact H2

end Rooms

end Cert.KernelIdeal.Tree

end
-- ==== Proof.Body.lean ====
/-
The kernel's body on a device, from what it starts with to what it leaves.
-/
module

public import proofs.«01_k».proof.Proof.Whole

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → Vec F S4096x512 .fp8e5m2) (W : Dev nD → Vec F S512x8192 .f32) (K : Dev nD × Ck → ℕ) (c : Dev nD)

/-! ## What the device starts with of its schedule -/

/-- Of a transfer: the duties it pays, and its places in the two rounds it waits for. -/
def ghostE (e : Edge) : sProp 𝕄 :=
  iprop((dutyTok ER (cell c (sndC e)) 0 0 ∗ dutyTok ER (cell (peer c e) (rcvC e)) 0 0 ∗ atPos ER (cell c (sndC e)) 0 ∅ 0) ∗ atPos ER (cell c (rcvC e)) 0 ∅ 0)

/-- Of everything. -/
def lin : sProp 𝕄 :=
  iprop((atPos ER (cell c barC) 0 ∅ 0 ∗ atPos ER (cell c stgC) 0 ∅ 0)
    ∗ (dutyTok ER (cell c stgC) 0 0 ∗ dutyTok ER (cell c stgC) 1 0 ∗ dutyTok ER (cell c stgC) 2 0)
    ∗ bigSepL (devs c) (fun d => dutyTok ER (cell d barC) 0 c) ∗ bigSep Finset.univ (ghostE (F := F) c))

/-- The credit the launch deals. -/
def credits : sProp 𝕄 :=
  iprop(cred (tallyAt (cell c barC) () 7) ∗ bigSep Finset.univ fun e => cred (tallyAt (cell c (rcvC e)) () (N e)))

/-- The six scratch buffers. -/
def scratch : sProp 𝕄 :=
  iprop((room (F := F) c (Memref.whole cc0_scratch0) ∗ room (F := F) c (wb 0) ∗ room (F := F) c (wb 1) ∗ room (F := F) c (wb 2))
    ∗ room (F := F) c (Memref.whole cc0_scratch1) ∗ room (F := F) c (Memref.whole cc0_scratch2))

/-- Its semaphores at zero. -/
def quiet : sProp 𝕄 :=
  iprop((bigSep Finset.univ fun e => iprop(semVal (cell c (sndC e)) 0 ∗ semVal (cell c (rcvC e)) 0)) ∗ semVal (cell c stgC) 0 ∗ semVal (cell c barC) 0)

/-! ## In and out of the steps' holdings -/

theorem hold_intro : iprop((bigSep Finset.univ fun e => room (F := F) (peer c e) (dst e)) ∗ bigSep Finset.univ (ghostE (F := F) c)
      ∗ (bigSep Finset.univ fun e => cred (tallyAt (cell c (rcvC e)) () (N e))) ∗ (∃ B, owes (c : Thread nD τ) (owed c 0) B)
      ∗ bigSepL (rootsOf 0) (Src X (W8 W) c) ∗ bigSepL xs (Src X (W8 W) c))
    ⊢ hold X W c stA := by
  have h : iprop((bigSep Finset.univ fun e => room (F := F) (peer c e) (dst e)) ∗ bigSep Finset.univ (ghostE (F := F) c)
      ∗ bigSep Finset.univ fun e => cred (tallyAt (cell c (rcvC e)) () (N e))) ⊢ res X W c ⟨0, 0, 0, 0⟩ := by
    unfold res
    rw [← bigSep_sep', ← bigSep_sep']
    refine bigSep_mono fun e _ => ?_
    show iprop(room (F := F) (peer c e) (dst e) ∗ ghostE (F := F) c e ∗ cred (tallyAt (cell c (rcvC e)) () (N e))) ⊢ eres X W c ⟨0, 0, 0, 0⟩ e
    rw [show eres X W c ⟨0, 0, 0, 0⟩ e = iprop((room (F := F) (peer c e) (dst e) ∗ dutyTok ER (cell c (sndC e)) 0 0
        ∗ dutyTok ER (cell (peer c e) (rcvC e)) 0 0 ∗ atPos ER (cell c (sndC e)) 0 ∅ 0)
        ∗ (cred (tallyAt (cell c (rcvC e)) () (N e)) ∗ atPos ER (cell c (rcvC e)) 0 ∅ 0) ∗ emp) from by
      unfold eres
      simp only [has_zero]
      rfl]
    unfold ghostE
    iintro ⟨Hr, ⟨⟨H1, H2, H3⟩, H4⟩, Hc⟩
    isplitl [Hr H1 H2 H3]
    · isplitl [Hr]; · iexact Hr
      isplitl [H1]; · iexact H1
      isplitl [H2]; · iexact H2
      iexact H3
    isplitl [Hc H4]
    · isplitl [Hc]; · iexact Hc
      iexact H4
    iempintro
  unfold hold
  iintro ⟨Hr, Hg, Hc, HO, Hs, Hx⟩
  isplitr [HO]
  · iapply (show iprop(res X W c { (⟨0, 0, 0, 0⟩ : St) with A := 0 } ∗ bigSepL (rootsOf 0 ++ xs) (Src X (W8 W) c)) ⊢ res X W c stA from
      res_kids X W c ⟨0, 0, 0, 0⟩ (rootsOf 0 ++ xs) 0 (by decide +kernel))
    isplitr [Hs Hx]
    · iapply h
      isplitl [Hr]; · iexact Hr
      isplitl [Hg]; · iexact Hg
      iexact Hc
    · iapply (Entails.of_eq (bigSepL_append (rootsOf 0) xs (Src X (W8 W) c)).symm)
      isplitl [Hs]; · iexact Hs
      iexact Hx
  · iexact HO

theorem hold_more (st : St) (l : List Edge) (h : fresh st.A st.S l = true) :
    iprop(hold X W c st ∗ bigSepL l (Src X (W8 W) c)) ⊢ hold X W c (more st l) := by
  unfold hold
  iintro ⟨⟨H, HO⟩, Hs⟩
  isplitr [HO]
  · iapply (res_kids X W c st l st.A h)
    isplitl [H]; · iexact H
    iexact Hs
  · iexact HO

theorem owed_all : owed c (2 ^ 31 - 1) = 0 := by
  unfold owed
  rw [show (Finset.univ.filter fun e => has (2 ^ 31 - 1) e = false) = ∅ from
    Finset.filter_eq_empty_iff.mpr fun e _ => by rw [has_all]; decide, Finset.sum_empty]

theorem hold_end : hold X W c stE
    ⊢ iprop((∃ B, owes (c : Thread nD τ) 0 B) ∗ (bigSep Finset.univ fun e => iprop(semVal (cell c (sndC e)) 0 ∗ semVal (cell c (rcvC e)) 0))
      ∗ (bigSep Finset.univ fun e => room (F := F) c (dst e)) ∗ bigSepL xs (Src X (W8 W) c)
      ∗ bigSepL (rootsOf 0) (Src X (W8 W) c) ∗ bigSepL (rootsOf 1) (Src X (W8 W) c) ∗ bigSepL (rootsOf 2) (Src X (W8 W) c)) := by
  have h1 : res X W c stE ⊢ iprop((bigSep Finset.univ fun e => iprop(semVal (cell c (sndC e)) 0 ∗ semVal (cell c (rcvC e)) 0))
      ∗ bigSep Finset.univ (Keep X (W8 W) c) ∗ bigSep Finset.univ (Src X (W8 W) c)) := by
    unfold res
    rw [← bigSep_sep', ← bigSep_sep']
    refine bigSep_mono fun e _ => ?_
    show eres X W c stE e ⊢ iprop((semVal (cell c (sndC e)) 0 ∗ semVal (cell c (rcvC e)) 0) ∗ Keep X (W8 W) c e ∗ Src X (W8 W) c e)
    rw [show eres X W c stE e = iprop(semVal (cell c (sndC e)) 0 ∗ (Keep X (W8 W) c e ∗ semVal (cell c (rcvC e)) 0) ∗ Src X (W8 W) c e) from by
      unfold eres stE
      simp only [has_all]
      rfl]
    iintro ⟨H1, ⟨H2, H3⟩, H4⟩
    isplitl [H1 H3]
    · isplitl [H1]; · iexact H1
      iexact H3
    isplitl [H2]; · iexact H2
    iexact H4
  have h2 : iprop(bigSep Finset.univ (Keep X (W8 W) c) ∗ bigSepL allE (fun e => bigSepL (kidsOf e) (Src X (W8 W) c)))
      ⊢ (bigSep Finset.univ fun e => room (F := F) c (dst e) : sProp 𝕄) := by
    rw [← bigSep_eq_bigSepL_of_eq allE allE_all allE_nodup, ← bigSep_sep']
    refine bigSep_mono fun e _ => ?_
    show iprop(Keep X (W8 W) c e ∗ bigSepL (kidsOf e) (Src X (W8 W) c)) ⊢ room (F := F) c (dst e)
    rw [← lend]
    exact owns_room c (dst e) _
  unfold hold
  rw [show owed c stE.S = 0 from owed_all c]
  iintro ⟨H, HO⟩
  ihave H' := h1 $$ H
  icases H' with ⟨Hz, HK, Hs⟩
  ihave Hs' := (Entails.of_eq (bigSep_from (Src X (W8 W) c))) $$ Hs
  icases Hs' with ⟨Hx, H0, H1, H2, Hk⟩
  isplitl [HO]; · iexact HO
  isplitl [Hz]; · iexact Hz
  isplitl [HK Hk]
  · iapply h2
    isplitl [HK]; · iexact HK
    iexact Hk
  isplitl [Hx]; · iexact Hx
  isplitl [H0]; · iexact H0
  isplitl [H1]; · iexact H1
  iexact H2

/-! ## The first product -/

/-- The output after the device's own row block and weight. -/
def firstO : (cc0_stg3_0 : Ref sig .tc).ty.Contents (Elt F) := k0_pay6 (k0_pay5 fun i => X c ((rOwn c).idx i)) (W8 W c)

theorem zero2 : (![0, 0] : Fin 2 → Nat) = fun _ => 0 := by decide

theorem wp_first {O : (cc0_stg3_0 : Ref sig .tc).ty.Contents (Elt F)} {k : KProg F PUnit} {Q : PUnit → sProp 𝕄} :
    iprop(ownsTc c ((Memref.whole cc0_stg0_0).slice (rOwn c) (fun _ => rfl)) fullShare (fun i => X c ((rOwn c).idx i))
        ∗ room (F := F) c ((Memref.whole cc0_scratch0).slice (rXg 0) (fun _ => rfl)) ∗ ownsTc c (Memref.whole cc0_scratch2) fullShare.left (W8 W c) ∗ outR c O)
      ⊢ iprop(((ownsTc c ((Memref.whole cc0_stg0_0).slice (rOwn c) (fun _ => rfl)) fullShare (fun i => X c ((rOwn c).idx i))
        ∗ room (F := F) c ((Memref.whole cc0_scratch0).slice (rXg 0) (fun _ => rfl)) ∗ ownsTc c (Memref.whole cc0_scratch2) fullShare.left (W8 W c)
        ∗ outR c (firstO X W c)) -∗ wpc c k Q) -∗ wpc c (first c >>= fun _ => k) Q) := by
  unfold first
  simp only [Prog.lift, Prog.bind_op, Prog.bind_ret, bind_assoc]
  iintro ⟨Hx, Hg, Hw, Ho⟩ Hk
  iapply (wp_part c (Memref.whole cc0_stg0_0) (rOwn c) (fun _ => rfl) fullShare (fun i => X c ((rOwn c).idx i))) $$ Hx
  iintro Hx
  iapply (wp_peek c (Memref.whole cc0_scratch0) (rXg 0) (fun _ => rfl)) $$ Hg
  iintro Hg
  iapply (wp_put c (Memref.whole cc0_scratch0) (rXg 0) (fun _ => rfl) (k0_pay5 fun i => X c ((rOwn c).idx i))) $$ Hg
  iintro Hg
  iapply (wp_part c (Memref.whole cc0_scratch0) (rXg 0) (fun _ => rfl) fullShare (k0_pay5 fun i => X c ((rOwn c).idx i))) $$ Hg
  iintro Hg
  ihave Hw' := (show (ownsTc c (Memref.whole cc0_scratch2) fullShare.left (W8 W c) : sProp 𝕄)
    ⊢ iprop(∃ f, ⌜(Memref.whole cc0_scratch2).view.read (Elt F) f = W8 W c⌝ ∗ ((Memref.whole cc0_scratch2).view.loc (c : Thread nD τ) ↦[(Memref.whole cc0_scratch2).view.set]{fullShare.left} f)) from .rfl) $$ Hw
  icases Hw' with ⟨%f, %hf, Hw⟩
  iapply (wp_load_rect 𝒱₀ (c : Thread nD τ) none Set.univ (m := Memref.whole cc0_scratch2)
    (r := Rect.unit (s := S512x8192) ![0, 0] S512x8192.size inb_S512x8192_S512x8192_0_0) (S := (Memref.whole cc0_scratch2).view.set) (q := fullShare.left) (f := f)
    (by rw [View.set_whole]; exact Finset.subset_univ _)) $$ Hw
  iintro Hw
  iapply (wp_load_rect 𝒱₀ (c : Thread nD τ) none Set.univ (m := Memref.whole cc0_stg3_0)
    (r := Rect.unit (s := S512x8192) ![0, 0] S512x8192.size inb_S512x8192_S512x8192_0_0) (S := Finset.univ) (q := fullShare) (f := O) (Finset.subset_univ _)) $$ Ho
  iintro Ho
  iapply (wp_store 𝒱₀ (c : Thread nD τ) none Set.univ (m := Memref.whole cc0_stg3_0)
    (r := Rect.unit (s := S512x8192) ![0, 0] S512x8192.size inb_S512x8192_S512x8192_0_0) (Mk := Finset.univ) (S := Finset.univ) (f := O) (Finset.subset_univ _)) $$ Ho
  iintro Ho
  iapply Hk
  isplitl [Hx]; · iexact Hx
  isplitl [Hg]; · iapply (owns_room c ((Memref.whole cc0_scratch0).slice (rXg 0) (fun _ => rfl)) _); iexact Hg
  isplitl [Hw]; · iapply (Entails.of_eq (owns_eq c (Memref.whole cc0_scratch2) fullShare.left hf).symm); iexact Hw
  have e1 : ((Memref.whole cc0_scratch2).access (Rect.unit (s := S512x8192) ![0, 0] S512x8192.size inb_S512x8192_S512x8192_0_0)).read (Elt F) f = W8 W c :=
    (Memref.readAt_unit_zero (Elt F) cc0_scratch2 zero2 _ f).trans hf
  have e2 : ∀ w : Vec F S512x8192 .f32, ((Memref.whole cc0_stg3_0).access (Rect.unit (s := S512x8192) ![0, 0] S512x8192.size inb_S512x8192_S512x8192_0_0)).write (Elt F) O w Finset.univ = w :=
    fun w => Memref.write_access_unit_zero_univ (Elt F) cc0_stg3_0 zero2 _ O w
  rw [e1, e2]
  iexact Ho

/-! ## The body -/

/-- The one word of a scale. -/
def word (f : S1.Idx → F .f32) : F .f32 := f ((Rect.unit (s := S1) ![0] S1.size inb_S1_S1_0).idx (Shape.Idx.first (numel1_S1.symm ▸ Nat.one_pos)))

/-- The kernel's result. -/
def outAt (f1 f2 : S1.Idx → F .f32) : (cc0_stg3_0 : Ref sig .tc).ty.Contents (Elt F) :=
  mainSteps.foldl (stepO X W c (k0_pay7 (word f1) (word f2))) (firstO X W c)

/-- The entry with the seven words to the peers as a list. -/
theorem body_form : (body c : KProg F PUnit) = (stage 0 >>= fun _ => signals (devs c) (staged 0 >>= fun _ => castIn 0 >>= fun _ => stage 1 >>= fun _ =>
    semWaitWord barSem 7#32 >>= fun _ => steps c (Scalar.ofBits .f32 0) sends1 (staged 1 >>= fun _ => castIn 1 >>= fun _ => stage 2 >>= fun _ =>
      steps c (Scalar.ofBits .f32 0) sends2 (staged 2 >>= fun _ => castIn 2 >>= fun _ => steps c (Scalar.ofBits .f32 0) (rootSends 2) (first c >>= fun _ =>
        smemLoad (Memref.whole cc0_stg1_0) (Rect.unit (s := S1) ![0] S1.size inb_S1_S1_0) numel1_S1 rfl >>= fun a =>
        smemLoad (Memref.whole cc0_stg2_0) (Rect.unit (s := S1) ![0] S1.size inb_S1_S1_0) numel1_S1 rfl >>= fun b => steps c (k0_pay7 a b) mainSteps (pure ⟨⟩)))))) := by
  unfold body bodyTo entry
  simp only [bind_assoc]
  rfl

abbrev scal (b : Ref sig .tc) (f : Buf (Elt F) ((c : Thread nD τ).loc b)) : sProp 𝕄 := ((c : Thread nD τ).loc b) ↦{fullShare} f

set_option maxHeartbeats 1600000 in
theorem body_sound (f1 : Buf (Elt F) ((c : Thread nD τ).loc cc0_stg1_0)) (f2 : Buf (Elt F) ((c : Thread nD τ).loc cc0_stg2_0)) (B : Waits sig Unit) (Q : PUnit → sProp 𝕄) :
    iprop((recs X W K ∗ levAts L lv ∗ lin (F := F) c ∗ credits (F := F) c ∗ scratch (F := F) c ∗ ownsTc c (Memref.whole main_arg1) fullShare (W c))
        ∗ owes (c : Thread nD τ) (toTell (owed c 0) (devs c)) B
        ∗ ownsTc c (Memref.whole cc0_stg0_0) fullShare (X c) ∗ scal c cc0_stg1_0 f1 ∗ scal c cc0_stg2_0 f2 ∗ (∃ O, outR c O))
      ⊢ iprop((((scratch (F := F) c ∗ quiet (F := F) c ∗ ownsTc c (Memref.whole main_arg1) fullShare (W c)) ∗ (∃ B, owes (c : Thread nD τ) 0 B)
          ∗ ownsTc c (Memref.whole cc0_stg0_0) fullShare (X c) ∗ scal c cc0_stg1_0 f1 ∗ scal c cc0_stg2_0 f2 ∗ outR c (outAt X W c f1 f2)) -∗ Q ⟨⟩)
        -∗ wpc c (body c) Q) := by
  rw [body_form]
  unfold lin credits scratch
  iintro ⟨⟨#HR, #Hl, ⟨⟨HaB, HaS⟩, ⟨Ht0, Ht1, Ht2⟩, HtB, HgE⟩, ⟨HcB, HcE⟩, ⟨Hrooms, Hr1, Hr2⟩, Hw⟩, HO, Hx, Hs1, Hs2, ⟨%O, Ho⟩⟩ Hk
  ihave Hrooms := (Entails.of_eq (rooms_eq (F := F) c)) $$ Hrooms
  icases Hrooms with ⟨Hg0, Hrooms⟩
  ihave Hrooms := (Entails.of_eq (rooms_to c X W)) $$ Hrooms
  ihave Hw := (Entails.of_eq (in_cut c W)) $$ Hw
  icases Hw with ⟨Hi0, Hi1, Hi2⟩
  ihave Hr2 := (Entails.of_eq (w8_room (F := F) c)) $$ Hr2
  icases Hr2 with ⟨Hc0, Hc1, Hc2⟩
  ihave Hx := (Entails.of_eq (x_cut c X (W8 W))) $$ Hx
  icases Hx with ⟨Hx, Hxs⟩
  -- the first stripe's staging starts
  ihave Hr1 := (stg_take (F := F) c 0) $$ Hr1
  icases Hr1 with ⟨Hr1, Ha⟩
  iapply (wp_stage X W K c 0) $$ [Hi0 Hr1 Ht0]
  · isplitr; · iexact HR
    isplitl [Hi0]; · iexact Hi0
    isplitl [Hr1]; · iexact Hr1
    isplitl [Ht0]; · iexact Ht0
    iapply (recs_reached X W K c stgC); iexact HR
  iintro Hcs
  -- the peers are told
  iapply (signals_sound X W K c (owed c 0) (devs c) (devs_ne c)) $$ [Hrooms HtB HO]
  · isplitr; · iexact HR
    isplitr [HO]
    · iapply (Entails.of_eq (show iprop(bigSepL (devs c) (fun d => payK X W d 0 c barC) ∗ bigSepL (devs c) (fun d => dutyTok ER (cell d barC) 0 c))
          = bigSepL (devs c) (fun d => iprop(payK X W d 0 c barC ∗ dutyTok ER (cell d barC) 0 c)) from by
        rw [← bigSep_eq_bigSepL_of_eq (devs c) rfl (devs_nodup c), ← bigSep_eq_bigSepL_of_eq (devs c) rfl (devs_nodup c),
          ← bigSep_eq_bigSepL_of_eq (devs c) rfl (devs_nodup c), bigSep_sep']))
      isplitl [Hrooms]; · iexact Hrooms
      iexact HtB
    iexact HO
  iintro HO
  -- the first stripe is stored
  iapply (wp_staged X W K c 0 0) $$ [Hcs HO HaS]
  · isplitr; · iexact HR
    isplitr; · iexact Hl
    isplitl [Hcs]; · iexact Hcs
    isplitl [HO]; · iexact HO
    iexact HaS
  iintro ⟨⟨%B1, HO⟩, HaS, Hre, Hr1, Hi0⟩
  iapply (wp_castIn W c 0) $$ [Hr1 Hc0]
  · isplitl [Hr1]; · iexact Hr1
    iexact Hc0
  iintro ⟨Hr1, Hc0⟩
  ihave Hc0 := (Entails.of_eq (root_sources X c (W8 W) 0)) $$ Hc0
  icases Hc0 with ⟨Hc0, Hsr0⟩
  ihave Hr1 := (owns_room c (stgM 0) (wCol W c 0)) $$ Hr1
  ihave Hr1 := (stg_give (F := F) c 0) $$ [Hr1 Ha]
  · isplitl [Hr1]; · iexact Hr1
    iexact Ha
  -- the second's staging starts
  ihave Hr1 := (stg_take (F := F) c 1) $$ Hr1
  icases Hr1 with ⟨Hr1, Ha⟩
  iapply (wp_stage X W K c 1) $$ [Hi1 Hr1 Ht1 Hre]
  · isplitr; · iexact HR
    isplitl [Hi1]; · iexact Hi1
    isplitl [Hr1]; · iexact Hr1
    isplitl [Ht1]; · iexact Ht1
    iexact Hre
  iintro Hcs
  -- the peers' words are in
  iapply (wp_heard X W K c) $$ [HcB HO HaB]
  · isplitr; · iexact HR
    isplitr; · iexact Hl
    isplitl [HcB]; · iexact HcB
    isplitl [HO]; · iexact HO
    iexact HaB
  iintro ⟨HO, HzB, Hrooms⟩
  ihave HH := (hold_intro X W c) $$ [Hrooms HgE HcE HO Hsr0 Hxs]
  · isplitl [Hrooms]; · iexact Hrooms
    isplitl [HgE]; · iexact HgE
    isplitl [HcE]; · iexact HcE
    isplitl [HO]; · iexact HO
    isplitl [Hsr0]; · iexact Hsr0
    iexact Hxs
  iapply (steps_sound X W K c _ stB sends1 stA O run_B) $$ [HH Ho]
  · isplitr; · iexact HR
    isplitr; · iexact Hl
    isplitl [HH]; · iexact HH
    iexact Ho
  iintro ⟨HH, Ho⟩
  -- the second stripe is stored, the third's staging starts
  ihave HH := (show hold X W c stB ⊢ iprop(res X W c stB ∗ ∃ B, owes (c : Thread nD τ) (owed c stB.S) B) from .rfl) $$ HH
  icases HH with ⟨HH, ⟨%B2, HO⟩⟩
  iapply (wp_staged X W K c 1 stB.S) $$ [Hcs HO HaS]
  · isplitr; · iexact HR
    isplitr; · iexact Hl
    isplitl [Hcs]; · iexact Hcs
    isplitl [HO]; · iexact HO
    iexact HaS
  iintro ⟨HO, HaS, Hre, Hr1, Hi1⟩
  iapply (wp_castIn W c 1) $$ [Hr1 Hc1]
  · isplitl [Hr1]; · iexact Hr1
    iexact Hc1
  iintro ⟨Hr1, Hc1⟩
  ihave Hc1 := (Entails.of_eq (root_sources X c (W8 W) 1)) $$ Hc1
  icases Hc1 with ⟨Hc1, Hsr1⟩
  ihave Hr1 := (owns_room c (stgM 1) (wCol W c 1)) $$ Hr1
  ihave Hr1 := (stg_give (F := F) c 1) $$ [Hr1 Ha]
  · isplitl [Hr1]; · iexact Hr1
    iexact Ha
  ihave Hr1 := (stg_take (F := F) c 2) $$ Hr1
  icases Hr1 with ⟨Hr1, Ha⟩
  iapply (wp_stage X W K c 2) $$ [Hi2 Hr1 Ht2 Hre]
  · isplitr; · iexact HR
    isplitl [Hi2]; · iexact Hi2
    isplitl [Hr1]; · iexact Hr1
    isplitl [Ht2]; · iexact Ht2
    iexact Hre
  iintro Hcs
  ihave HH := (show iprop((res X W c stB ∗ ∃ B, owes (c : Thread nD τ) (owed c stB.S) B) ∗ bigSepL (rootsOf 1) (Src X (W8 W) c)) ⊢ hold X W c (more stB (rootsOf 1)) from
    hold_more X W c stB (rootsOf 1) fresh_B) $$ [HH HO Hsr1]
  · isplitl [HH HO]
    · isplitl [HH]; · iexact HH
      iexact HO
    iexact Hsr1
  iapply (steps_sound X W K c _ stC sends2 (more stB (rootsOf 1)) _ run_C) $$ [HH Ho]
  · isplitr; · iexact HR
    isplitr; · iexact Hl
    isplitl [HH]; · iexact HH
    iexact Ho
  iintro ⟨HH, Ho⟩
  -- the third stripe is stored
  ihave HH := (show hold X W c stC ⊢ iprop(res X W c stC ∗ ∃ B, owes (c : Thread nD τ) (owed c stC.S) B) from .rfl) $$ HH
  icases HH with ⟨HH, ⟨%B3, HO⟩⟩
  iapply (wp_staged X W K c 2 stC.S) $$ [Hcs HO HaS]
  · isplitr; · iexact HR
    isplitr; · iexact Hl
    isplitl [Hcs]; · iexact Hcs
    isplitl [HO]; · iexact HO
    iexact HaS
  iintro ⟨HO, HaS, -, Hr1, Hi2⟩
  iapply (wp_castIn W c 2) $$ [Hr1 Hc2]
  · isplitl [Hr1]; · iexact Hr1
    iexact Hc2
  iintro ⟨Hr1, Hc2⟩
  ihave Hc2 := (Entails.of_eq (root_sources X c (W8 W) 2)) $$ Hc2
  icases Hc2 with ⟨Hc2, Hsr2⟩
  ihave Hr1 := (owns_room c (stgM 2) (wCol W c 2)) $$ Hr1
  ihave Hr1 := (stg_give (F := F) c 2) $$ [Hr1 Ha]
  · isplitl [Hr1]; · iexact Hr1
    iexact Ha
  ihave HzS := (stg_close X W K c) $$ [HaS]
  · isplitr; · iexact HR
    iexact HaS
  ihave HH := (show iprop((res X W c stC ∗ ∃ B, owes (c : Thread nD τ) (owed c stC.S) B) ∗ bigSepL (rootsOf 2) (Src X (W8 W) c)) ⊢ hold X W c (more stC (rootsOf 2)) from
    hold_more X W c stC (rootsOf 2) fresh_C) $$ [HH HO Hsr2]
  · isplitl [HH HO]
    · isplitl [HH]; · iexact HH
      iexact HO
    iexact Hsr2
  imod HzS
  iapply (steps_sound X W K c _ stD (rootSends 2) (more stC (rootsOf 2)) _ run_D) $$ [HH Ho]
  · isplitr; · iexact HR
    isplitr; · iexact Hl
    isplitl [HH]; · iexact HH
    iexact Ho
  iintro ⟨HH, Ho⟩
  -- the first product
  ihave Hc := (Entails.of_eq (col_cut c fullShare.left (W8 W c)).symm) $$ [Hc0 Hc1 Hc2]
  · isplitl [Hc0]; · iexact Hc0
    isplitl [Hc1]; · iexact Hc1
    iexact Hc2
  iapply (wp_first X W c) $$ [Hx Hg0 Hc Ho]
  · isplitl [Hx]; · iexact Hx
    isplitl [Hg0]; · iexact Hg0
    isplitl [Hc]; · iexact Hc
    iexact Ho
  iintro ⟨Hx, Hg0, Hc, Ho⟩
  -- the scales
  unfold smemLoad smemLoadElt
  simp only [Prog.bind_op, Prog.bind_ret]
  iapply (wp_load_rect 𝒱₀ (c : Thread nD τ) none Set.univ (m := Memref.whole cc0_stg1_0) (r := Rect.unit (s := S1) ![0] S1.size inb_S1_S1_0)
    (S := Finset.univ) (q := fullShare) (f := f1) (Finset.subset_univ _)) $$ Hs1
  iintro Hs1
  iapply (wp_load_rect 𝒱₀ (c : Thread nD τ) none Set.univ (m := Memref.whole cc0_stg2_0) (r := Rect.unit (s := S1) ![0] S1.size inb_S1_S1_0)
    (S := Finset.univ) (q := fullShare) (f := f2) (Finset.subset_univ _)) $$ Hs2
  iintro Hs2
  -- the rest
  iapply (steps_sound X W K c _ stE mainSteps stD _ run_E) $$ [HH Ho]
  · isplitr; · iexact HR
    isplitr; · iexact Hl
    isplitl [HH]; · iexact HH
    iexact Ho
  iintro ⟨HH, Ho⟩
  ihave HH := (hold_end X W c) $$ HH
  icases HH with ⟨HO, Hz, Hrooms, Hxs, Hsr0, Hsr1, Hsr2⟩
  ihave Hc := (Entails.of_eq (col_cut c fullShare.left (W8 W c))) $$ Hc
  icases Hc with ⟨Hc0, Hc1, Hc2⟩
  ihave Hc0 := (Entails.of_eq (root_sources X c (W8 W) 0).symm) $$ [Hc0 Hsr0]
  · isplitl [Hc0]; · iexact Hc0
    iexact Hsr0
  ihave Hc1 := (Entails.of_eq (root_sources X c (W8 W) 1).symm) $$ [Hc1 Hsr1]
  · isplitl [Hc1]; · iexact Hc1
    iexact Hsr1
  ihave Hc2 := (Entails.of_eq (root_sources X c (W8 W) 2).symm) $$ [Hc2 Hsr2]
  · isplitl [Hc2]; · iexact Hc2
    iexact Hsr2
  rw [show (wpc c (pure ⟨⟩) Q : sProp 𝕄) = _ from wp_pure _ _ _ _ _]
  imodintro
  iapply Hk
  isplitl [Hg0 Hrooms Hr1 Hc0 Hc1 Hc2 Hz HzS HzB Hi0 Hi1 Hi2]
  · isplitl [Hg0 Hrooms Hr1 Hc0 Hc1 Hc2]
    · isplitl [Hg0 Hrooms]
      · iapply (Entails.of_eq (rooms_eq (F := F) c).symm)
        isplitl [Hg0]; · iexact Hg0
        iexact Hrooms
      isplitl [Hr1]; · iexact Hr1
      iapply (owns_room c (Memref.whole cc0_scratch2) (W8 W c))
      iapply (Entails.of_eq (col_cut c fullShare (W8 W c)).symm)
      isplitl [Hc0]; · iexact Hc0
      isplitl [Hc1]; · iexact Hc1
      iexact Hc2
    isplitl [Hz HzS HzB]
    · unfold quiet
      isplitl [Hz]; · iexact Hz
      isplitl [HzS]; · iexact HzS
      iexact HzB
    iapply (Entails.of_eq (in_cut c W).symm)
    isplitl [Hi0]; · iexact Hi0
    isplitl [Hi1]; · iexact Hi1
    iexact Hi2
  isplitl [HO]; · iexact HO
  isplitl [Hx Hxs]
  · iapply (Entails.of_eq (x_cut c X (W8 W)).symm)
    isplitl [Hx]; · iexact Hx
    iexact Hxs
  isplitl [Hs1]; · iexact Hs1
  isplitl [Hs2]; · iexact Hs2
  iexact Ho

end Body

end Cert.KernelIdeal.Tree

end
-- ==== Proof.Same.lean ====
/-
The printed body is the list of steps: cut in five pieces, each by definitional unfolding before any rest.
-/
module

public import proofs.«01_k».proof.Proof.Program

@[expose] public section

noncomputable section

namespace Cert.KernelIdeal.Tree

open Cert.KernelIdeal Cert.KernelIdeal.Gen
open Idealize.ShloMosaic Idealize.ShloMosaic.TcCoe
open Idealize.SL Idealize.SL.Sem

variable {F : FTy → Type} [FloatOps F]

theorem steps_append (d0 : Dev nD) (sc : F .f32) (l l' : List Step) (k : KProg F PUnit) : steps d0 sc (l ++ l') k = steps d0 sc l (steps d0 sc l' k) := by
  induction l with
  | nil => rfl
  | cons i l ih => simp only [List.cons_append, steps, ih]

/-- The printed body's last waits. -/
def part5 (t : Fin cfg0.N) (d0 : Dev nD) : KProg F PUnit := do
  k0_part39 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0
  k0_part40 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0
  k0_part41 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0
  k0_part42 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14
  k0_part43 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14
  k0_part44 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14
  k0_part45 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14
  let v1220 : Memref sig .tc .vmem S1x512x1280 .fp8e5m2 := (Memref.whole cc0_scratch4).slice (Rect.unit (s := S7x512x2688) ![5, 0, 1408] S1x512x1280.size inb_S7x512x2688_S1x512x1280_5_0_1408) (fun _ => rfl)
  let v1221 : Memref sig .tc .vmem S512x1280 .fp8e5m2 := v1220.squeeze S512x1280 squeezes_S1x512x1280_S512x1280
  let v1222 : Memref sig .tc .vmem S1x512x1280 .fp8e5m2 := (Memref.whole cc0_scratch4).slice (Rect.unit (s := S7x512x2688) ![6, 0, 1408] S1x512x1280.size inb_S7x512x2688_S1x512x1280_6_0_1408) (fun _ => rfl)
  let v1223 : Memref sig .tc .vmem S512x1280 .fp8e5m2 := v1222.squeeze S512x1280 squeezes_S1x512x1280_S512x1280
  let v1218 : DmaSems sig S1 := cc0_scratch11.slice (Rect.unit (s := S8) ![0] S1.size inb_S8_S1_0)
  let v1219 : DmaSems sig S_ := v1218.squeeze S_ squeezes_S1_S_
  Prog.lift (.waitDma2 v1219.sem v1223 v1221 (((Memref.isWhole_whole _).wordExact_slice rfl _ wordsfp8e5m2_S7x512x2688_S1x512x1280_6_0_1408).reshape _ _) (((Memref.isWhole_whole _).wordExact_slice rfl _ wordsfp8e5m2_S7x512x2688_S1x512x1280_5_0_1408).reshape _ _))
  pure ⟨⟩

/-- The printed body before them, -/
def part4 (t : Fin cfg0.N) (d0 : Dev nD) (v2 : BitVec 32) (v7 : BitVec 32) (v325 : F .f32) (k : KProg F PUnit) : KProg F PUnit := do
  let v901 : FVec F S512x2688 .f32 ← k0_part32 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7
  k0_part33 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v901
  k0_part34 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v325
  let ⟨v979, v981⟩ : Σ' (v979 : FVec F S512x1408 .f32), FVec F S512x512 .fp8e5m2 ← k0_part35 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v325
  let v1010 : FVec F S512x1408 .f32 ← k0_part36 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v325 v979 v981
  k0_part37 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v325 v1010
  k0_part38 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v325
  k

/-- before that, -/
def part3f (t : Fin cfg0.N) (d0 : Dev nD) (v2 : BitVec 32) (v7 : BitVec 32) (v325 : F .f32) (k : KProg F PUnit) : KProg F PUnit := do
  k0_part27 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2
  let v788 : BitVec 32 ← k0_part28 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v7
  k0_part29 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v788
  k0_part30 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2
  k0_part31 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v7
  k

/-- before that, -/
def part3e (t : Fin cfg0.N) (d0 : Dev nD) (v2 : BitVec 32) (v7 : BitVec 32) (v325 : F .f32) (k : KProg F PUnit) : KProg F PUnit := do
  k0_part25 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2
  k0_part26 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2
  k

/-- before that, -/
def part3d (t : Fin cfg0.N) (d0 : Dev nD) (v2 : BitVec 32) (v7 : BitVec 32) (v325 : F .f32) (k : KProg F PUnit) : KProg F PUnit := do
  let v655 : BitVec 32 ← k0_part23 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v7
  k0_part24 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v655
  k

/-- before that, -/
def part3c (t : Fin cfg0.N) (d0 : Dev nD) (v2 : BitVec 32) (v7 : BitVec 32) (v325 : F .f32) (k : KProg F PUnit) : KProg F PUnit := do
  k0_part22 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7
  k

/-- before that, -/
def part3b (t : Fin cfg0.N) (d0 : Dev nD) (v2 : BitVec 32) (v7 : BitVec 32) (v325 : F .f32) (k : KProg F PUnit) : KProg F PUnit := do
  k0_part21 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2
  k

/-- before that, -/
def part3a (t : Fin cfg0.N) (d0 : Dev nD) (v2 : BitVec 32) (v7 : BitVec 32) (v325 : F .f32) (k : KProg F PUnit) : KProg F PUnit := do
  k0_part20 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7
  k

/-- these six together, -/
def part3 (t : Fin cfg0.N) (d0 : Dev nD) (v2 : BitVec 32) (v7 : BitVec 32) (v325 : F .f32) (k : KProg F PUnit) : KProg F PUnit :=
  part3a t d0 v2 v7 v325 (part3b t d0 v2 v7 v325 (part3c t d0 v2 v7 v325 (part3d t d0 v2 v7 v325 (part3e t d0 v2 v7 v325 (part3f t d0 v2 v7 v325 k)))))

/-- before that, -/
def part2 (t : Fin cfg0.N) (d0 : Dev nD) (v2 : BitVec 32) (v7 : BitVec 32) (v323 : Elt F .f32) (k : F .f32 → KProg F PUnit) : KProg F PUnit := do
  let ⟨v325, v349⟩ : Σ' (v325 : F .f32), FVec F S512x2816 .f32 ← k0_part12 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2 v323
  let ⟨v376, v377, v378⟩ : Σ' (v376 : BitVec 32) (v377 : BitVec 32), BitVec 32 ← k0_part13 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v7 v349
  k0_part14 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v376 v377 v378
  let c1_i32_402 : BitVec 32 ← k0_part15 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7
  k0_part16 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v7 c1_i32_402
  let ⟨v483, v488⟩ : Σ' (v483 : FVec F S512x2688 .f32), FVec F S512x2688 .f32 ← k0_part17 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v2
  let ⟨v515, v516, c4_i32_489⟩ : Σ' (v515 : BitVec 32) (v516 : BitVec 32), BitVec 32 ← k0_part18 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v7 v483 v488
  k0_part19 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v515 v516 c4_i32_489
  k v325

/-- and from its entry. -/
def part1 (t : Fin cfg0.N) (k : Dev nD → BitVec 32 → BitVec 32 → Elt F .f32 → KProg F PUnit) : KProg F PUnit := do
  let ⟨d0, v2, v7, v10, v25, c0_i32_22⟩ : Σ' (d0 : Dev nD) (v2 : BitVec 32) (v7 : BitVec 32) (v10 : Sems sig S_) (v25 : BitVec 32), BitVec 32 ← k0_part1 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14
  let c1_i32_46 : BitVec 32 ← k0_part2 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v10 v25 c0_i32_22
  let ⟨v78, c3_i32_73⟩ : Σ' (v78 : BitVec 32), BitVec 32 ← k0_part3 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 c1_i32_46
  let ⟨v109, v110⟩ : Σ' (v109 : BitVec 32), BitVec 32 ← k0_part4 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v78 c3_i32_73
  k0_part5 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v109 v110
  let v170 : BitVec 32 ← k0_part6 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7
  let v200 : BitVec 32 ← k0_part7 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v170
  let v232 : BitVec 32 ← k0_part8 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v200
  let v262 : FVec F S512x2688 .fp8e5m2 ← k0_part9 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v232
  k0_part10 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v7 v262
  let v323 : Elt F .f32 ← k0_part11 (win0_0.stage (cfg0.slots t 0)) (hstage0_0 0) (Memref.whole main_arg1) (Memref.isWhole_whole _) (win0_1.stage (cfg0.slots t 1)) (hstage0_1 0) (win0_2.stage (cfg0.slots t 2)) (hstage0_2 0) (win0_3.stage (cfg0.slots t 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v2 v7
  k d0 v2 v7 v323

/-- The two words the printed body carries along: the device's place, -/
def w2 (d0 : Dev nD) : BitVec 32 := Scalar.remsi (Scalar.divsi (Dev.word d0) 1#32) 8#32
/-- and its corner of the cube. -/
def w7 (d0 : Dev nD) : BitVec 32 := Scalar.ori (Scalar.andi (w2 d0) 4#32) (Scalar.xori (Scalar.andi (w2 d0) 3#32) (Scalar.shrsi (Scalar.andi (w2 d0) 3#32) 1#32))

/-- The last waits, -/
def piece5 : List Step := (doneOrder.drop 2).map .done
/-- the steps before them, -/
def piece4 : List Step := [.send (.v 1 false), .send (.v 1 true), .acc 1 5] ++ turn 5 2
  ++ .recv (.x 6) :: (([0, 1, 2] : List (Fin 3)).flatMap (turnFin · false) ++ ([0, 1, 2] : List (Fin 3)).flatMap (turnFin · true)) ++ [.done (.w 0 0), .done (.w 0 1)]
/-- before that, -/
def piece3 : List Step := ([3, 2, 4] : List (Fin 6)).flatMap (fun m => ([0, 1, 2] : List (Fin 3)).flatMap (turn m)) ++ turn 5 0 ++ [.recv (.w 1 5)]
/-- and the first. -/
def piece2 : List Step := ([0, 1] : List (Fin 6)).flatMap (fun m => ([0, 1, 2] : List (Fin 3)).flatMap (turn m))

theorem mainSteps_eq : mainSteps = piece2 ++ (piece3 ++ (piece4 ++ piece5)) := rfl

set_option maxRecDepth 65536

theorem body_eq_parts (t : Fin cfg0.N) : bodyAt0 (F := F) t =
    part1 t (fun d0 v2 v7 x => part2 t d0 v2 v7 x fun sc => part3 t d0 v2 v7 sc (part4 t d0 v2 v7 sc (part5 t d0))) := (rfl)
theorem part5_eq (t : Fin cfg0.N) (d0 : Dev nD) (sc : F .f32) : part5 (F := F) t d0 = steps d0 sc piece5 (pure ⟨⟩) := (rfl)
theorem part4_eq (t : Fin cfg0.N) (d0 : Dev nD) (a b : BitVec 32) (sc : F .f32) (k : KProg F PUnit) : part4 (F := F) t d0 a b sc k = steps d0 sc piece4 k := (rfl)
theorem part3a_eq (t : Fin cfg0.N) (d0 : Dev nD) (a b : BitVec 32) (sc : F .f32) (k : KProg F PUnit) : part3a (F := F) t d0 a b sc k = steps d0 sc ([.recv (.w 0 3), .send (.w 0 4)]) k := (rfl)
theorem part3b_eq (t : Fin cfg0.N) (d0 : Dev nD) (a b : BitVec 32) (sc : F .f32) (k : KProg F PUnit) : part3b (F := F) t d0 a b sc k = steps d0 sc ([.send (.w 0 5), .recv (.x 3), .acc 0 3]) k := (rfl)
theorem part3c_eq (t : Fin cfg0.N) (d0 : Dev nD) (a b : BitVec 32) (sc : F .f32) (k : KProg F PUnit) : part3c (F := F) t d0 a b sc k = steps d0 sc (turn 3 1) k := (rfl)
theorem part3d_eq (t : Fin cfg0.N) (d0 : Dev nD) (a b : BitVec 32) (sc : F .f32) (k : KProg F PUnit) : part3d (F := F) t d0 a b sc k = steps d0 sc (turn 3 2 ++ [.recv (.w 0 2), .send (.v 0 false), .send (.v 0 true)]) k := (rfl)
theorem part3e_eq (t : Fin cfg0.N) (d0 : Dev nD) (a b : BitVec 32) (sc : F .f32) (k : KProg F PUnit) : part3e (F := F) t d0 a b sc k = steps d0 sc ([.recv (.x 2), .acc 0 2] ++ turn 2 1 ++ turn 2 2) k := (rfl)
theorem part3f_eq (t : Fin cfg0.N) (d0 : Dev nD) (a b : BitVec 32) (sc : F .f32) (k : KProg F PUnit) : part3f (F := F) t d0 a b sc k = steps d0 sc (([0, 1, 2] : List (Fin 3)).flatMap (turn 4) ++ turn 5 0 ++ [.recv (.w 1 5)]) k := (rfl)
theorem part3_eq (t : Fin cfg0.N) (d0 : Dev nD) (a b : BitVec 32) (sc : F .f32) (k : KProg F PUnit) : part3 (F := F) t d0 a b sc k = steps d0 sc piece3 k := by
  rw [show piece3 = ([.recv (.w 0 3), .send (.w 0 4)]) ++ (([.send (.w 0 5), .recv (.x 3), .acc 0 3]) ++ ((turn 3 1) ++ ((turn 3 2 ++ [.recv (.w 0 2), .send (.v 0 false), .send (.v 0 true)]) ++ (([.recv (.x 2), .acc 0 2] ++ turn 2 1 ++ turn 2 2) ++ ((([0, 1, 2] : List (Fin 3)).flatMap (turn 4) ++ turn 5 0 ++ [.recv (.w 1 5)]))))))  from rfl]
  simp only [part3, part3a_eq, part3b_eq, part3c_eq, part3d_eq, part3e_eq, part3f_eq, steps_append]
theorem part2_eq (t : Fin cfg0.N) (d0 : Dev nD) (a b : BitVec 32) (x : Elt F .f32) (k : F .f32 → KProg F PUnit) : part2 (F := F) t d0 a b x k =
    (smemLoad (Memref.whole cc0_stg2_0) (Rect.unit (s := S1) ![0] S1.size inb_S1_S1_0) numel1_S1 rfl >>= fun y => steps d0 (k0_pay7 x y) piece2 (k (k0_pay7 x y))) := (rfl)
theorem part1_eq (t : Fin cfg0.N) (k : Dev nD → BitVec 32 → BitVec 32 → Elt F .f32 → KProg F PUnit) : part1 (F := F) t k =
    (Prog.lift .deviceId >>= fun d0 => bodyTo d0 (fun x => k d0 (w2 d0) (w7 d0) x)) := (rfl)

/-- The printed body is the list of steps. -/
theorem body_eq (t : Fin cfg0.N) : bodyAt0 (F := F) t = (Prog.lift .deviceId >>= fun d0 => body d0) := by
  have h (d0 : Dev nD) (sc : F .f32) : part3 t d0 (w2 d0) (w7 d0) sc (part4 t d0 (w2 d0) (w7 d0) sc (part5 t d0)) =
      steps d0 sc piece3 (steps d0 sc piece4 (steps d0 sc piece5 (pure ⟨⟩))) := by
    rw [part3_eq, part4_eq, part5_eq t d0 sc]
  simp only [body_eq_parts, part1_eq, part2_eq, h, body, mainSteps_eq, steps_append]
  rfl

end Cert.KernelIdeal.Tree

end
-- ==== Proof.Start.lean ====
/-
The kernel's body as the launch asks for it: what each device's blocks hold before it and after.
-/
module

public import proofs.«01_k».proof.Proof.Body
public import proofs.«01_k».proof.Proof.Same
public import Idealize.ShloMosaic.Lib.Pipeline.FrameBody

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The launch memory: every semaphore at zero. -/
def s₀ : MemSt nD τ sig (Elt F) := ⟨m, fun _ => 0, ρ⟩

/-- A device's row blocks of `x`, -/
def xin (c : Dev nD) : Vec F S4096x512 .fp8e5m2 := (win0_0.blk (0 : Fin 1)).view.read (Elt F) (m ((c : Thread nD τ).loc main_arg0))
/-- its scales, -/
def s1in (c : Dev nD) : S1.Idx → F .f32 := (win0_1.blk (0 : Fin 1)).view.read (Elt F) (m ((c : Thread nD τ).loc main_arg2))
def s2in (c : Dev nD) : S1.Idx → F .f32 := (win0_2.blk (0 : Fin 1)).view.read (Elt F) (m ((c : Thread nD τ).loc main_arg3))
/-- and its block of the weight. -/
def win (c : Dev nD) : Vec F S512x8192 .f32 := m ((c : Thread nD τ).loc main_arg1)

/-- What it computes of them and of the others'. -/
def result (c : Dev nD) : (cc0_stg3_0 : Ref sig .tc).ty.Contents (Elt F) := outAt (xin m) (win m) c (s1in m c) (s2in m c)

/-- What a device owes at the launch: a word to each peer, and each of its transfers. -/
def O₀ (c : Dev nD) : CellTallies nD τ sig Unit := toTell (owed c 0) (devs c)

def start (c : Dev nD) : sProp 𝕄 :=
  iprop((∃ K, recs (xin m) (win m) K ∗ lin (F := F) c) ∗ credits (F := F) c ∗ levAts L lv ∗ ownsTc c (Memref.whole main_arg1) fullShare (win m c))

def Φ₀ (c : Dev nD) : sProp 𝕄 := iprop(start m c ∗ scratch (F := F) c)
def Φ₁ (c : Dev nD) : sProp 𝕄 := iprop(scratch (F := F) c ∗ quiet (F := F) c ∗ ownsTc c (Memref.whole main_arg1) fullShare (win m c))

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => s1in m c
    | ⟨2, _⟩ => s2in m c
    | ⟨3, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetched_0 (t : Fin cfg0.N) : (cfg0.win (0 : Fin 4)).fetch t = true := by rw [fin_N0 t]; rfl
theorem fetched_1 (t : Fin cfg0.N) : (cfg0.win (1 : Fin 4)).fetch t = true := by rw [fin_N0 t]; rfl
theorem fetched_2 (t : Fin cfg0.N) : (cfg0.win (2 : Fin 4)).fetch t = true := by rw [fin_N0 t]; rfl

theorem bigSep_win (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xin m c) ∗ stg c cc0_stg1_0 (s1in m c) ∗ stg c cc0_stg2_0 (s2in m c)
    ∗ stg c cc0_stg3_0 (result m c))

theorem body_meets (c : Dev nD) : bodyPre m c ⊢ wpc c (body c) fun _ => bodyPost m c := by
  unfold bodyPre Φ₀ start
  iintro ⟨⟨⟨⟨%K, HR, Hl⟩, Hcr, #Hlev, Hw⟩, Hscr⟩, Ho, ⟨%d0, %g0, %h0, Hx⟩, ⟨%d1, %g1, %h1, H1⟩, ⟨%d2, %g2, %h2, H2⟩, ⟨%d3, %g3, %h3, H3⟩⟩
  have e0 : g0 = xin m c := by rw [h0]; unfold Dat.before; rw [if_pos (fetched_0 t0_0)]; rfl
  have e1 : g1 = s1in m c := by rw [h1]; unfold Dat.before; rw [if_pos (fetched_1 t0_0)]; rfl
  have e2 : g2 = s2in m c := by rw [h2]; unfold Dat.before; rw [if_pos (fetched_2 t0_0)]; rfl
  subst e0 e1 e2
  unfold Dat.owesAt Pipeline.owesWithin
  icases Ho with ⟨%B, %hB, HO⟩
  rw [show (dats m 0 c).owed t0_0.castSucc = O₀ c from rfl]
  unfold O₀
  iapply (body_sound (xin m) (win m) K c (s1in m c) (s2in m c) B (fun _ => bodyPost m c)) $$ [HR Hl Hcr Hscr Hw HO Hx H1 H2 H3]
  · isplitl [HR Hl Hcr Hscr Hw]
    · isplitl [HR]; · iexact HR
      isplitr; · iexact Hlev
      isplitl [Hl]; · iexact Hl
      isplitl [Hcr]; · iexact Hcr
      isplitl [Hscr]; · iexact Hscr
      iexact Hw
    isplitl [HO]; · iexact HO
    isplitl [Hx]
    · iapply (Entails.of_eq (owns_whole_eq (F := F) c cc0_stg0_0 (xin m c)).symm)
      iexists (xin m c)
      isplitr; · ipureintro; rfl
      iexact Hx
    isplitl [H1]; · iexact H1
    isplitl [H2]; · iexact H2
    iexists g3
    iexact H3
  iintro ⟨⟨Hscr, Hq, Hw⟩, ⟨%B', HO⟩, Hx, H1, H2, H3⟩
  unfold bodyPost Φ₁
  isplitl [Hscr Hq Hw]
  · isplitl [Hscr]; · iexact Hscr
    isplitl [Hq]; · iexact Hq
    iexact Hw
  isplitl [HO]
  · unfold Dat.owesAt Pipeline.owesWithin
    rw [show (dats m 0 c).owed t0_0.succ = 0 from rfl]
    iexists B'
    isplitr; · ipureintro; exact fun _ _ => Or.inl trivial
    iexact HO
  isplitl [Hx]; · iapply (Entails.of_eq (owns_whole_eq (F := F) c cc0_stg0_0 (xin m c))); iexact Hx
  isplitl [H1]
  · iexists (s1in m c)
    isplitr; · ipureintro; rfl
    iexact H1
  isplitl [H2]
  · iexists (s2in m c)
    isplitr; · ipureintro; rfl
    iexact H2
  iexists (result m c)
  isplitr; · ipureintro; rfl
  iexact H3

theorem body_row : (defs₀ (F := F)) .tc cfg0.body (cfg0.bodyArgs t0_0 (cfg0.slots t0_0)) = bodyAt0 t0_0 := rfl

theorem read_id (c : Dev nD) (p : Dev nD → KProg F PUnit) (Q : PUnit → sProp 𝕄) : wpc c (Prog.lift .deviceId >>= p) Q = wpc c (p c) Q := by
  simp only [Prog.lift, Prog.bind_op, Prog.bind_ret]
  exact wp_deviceId 𝒱₀ (c : Thread nD τ) none Set.univ

theorem body_runs (c : Dev nD) : bodyPre m c ⊢ wpc c (bodyAt0 t0_0) (fun _ => bodyPost m c) := by
  rw [body_eq, read_id]
  exact body_meets m c

theorem after_0 (c : Dev nD) (t : Fin cfg0.N) : (dats m 0 c).after (0 : Fin 4) t = xin m c := by dsimp only [dats]
theorem after_1 (c : Dev nD) (t : Fin cfg0.N) : (dats m 0 c).after (1 : Fin 4) t = s1in m c := by dsimp only [dats]
theorem after_2 (c : Dev nD) (t : Fin cfg0.N) : (dats m 0 c).after (2 : Fin 4) t = s2in m c := by dsimp only [dats]
theorem after_3 (c : Dev nD) (t : Fin cfg0.N) : (dats m 0 c).after (3 : Fin 4) t = result m c := by dsimp only [dats]

theorem phi_0 (c : Dev nD) : (dats m 0 c).Φ t0_0.castSucc = Φ₀ m c := rfl
theorem phi_1 (c : Dev nD) : (dats m 0 c).Φ t0_0.succ = Φ₁ m c := rfl

/-- What the launch asks of the body. -/
theorem body_obligation (c : Dev nD) : BodyObligation (dats (F := F) m 0 c) (defs₀ (F := F)) 𝒱₀ () Set.univ := fun t => by
  rw [fin_N0 t, bigSep_win, bigSep_win]
  simp only [owns_whole_eq, after_0, after_1, after_2, after_3]
  rw [phi_0, phi_1]
  refine triple_restated (body_runs m c) (congrArg (wp frame (wpE (defs₀ (F := F)) 𝒱₀ (c : Thread nD τ) none) Set.univ) body_row.symm) ?_ fun _ => ?_
  · unfold bodyPre
    exact .rfl
  · unfold bodyPost
    exact .rfl

end Cert.KernelIdeal.Tree

end
-- ==== Proof.Ghost.lean ====
/-
What the launch deals each device of the schedule: its places, the tokens of the duties it pays, and the credit it is
owed.
-/
module

public import proofs.«01_k».proof.Proof.Start

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

abbrev kcell (ck : Dev nD × Ck) : GSem nD τ sig := cell ck.1 ck.2

theorem kcell_inj : Function.Injective kcell := fun a b h => Prod.ext (cell_inj h).1 (cell_inj h).2

def allCells : Finset (GSem nD τ sig) := Finset.univ.map ⟨kcell, kcell_inj⟩

/-- A device's duties: a word from each device, three staging copies, each transfer's two ends. -/
abbrev Duty : Type := Dev nD ⊕ (Fin 3 ⊕ (Edge × Bool))

def tokOf : Dev nD × Duty → GSem nD τ sig × ℕ × Dev nD
  | (c, .inl d) => (cell c barC, 0, d)
  | (c, .inr (.inl r)) => (cell c stgC, r.val, 0)
  | (c, .inr (.inr eb)) => (cell c (some (some eb)), 0, 0)

theorem tokOf_inj : Function.Injective tokOf := by
  rintro ⟨c, j⟩ ⟨c', j'⟩ h
  have hg : (tokOf (c, j)).1 = (tokOf (c', j')).1 := congrArg Prod.fst h
  have hr : (tokOf (c, j)).2 = (tokOf (c', j')).2 := congrArg Prod.snd h
  match j, j' with
  | .inl d, .inl d' =>
    obtain ⟨rfl, -⟩ := cell_inj (k := barC) (k' := barC) hg
    have : d = d' := congrArg Prod.snd hr
    rw [this]
  | .inl d, .inr (.inl r) => cases (cell_inj (k := barC) (k' := stgC) hg).2
  | .inl d, .inr (.inr eb) => cases (cell_inj (k := barC) (k' := some (some eb)) hg).2
  | .inr (.inl r), .inl d => cases (cell_inj (k := stgC) (k' := barC) hg).2
  | .inr (.inr eb), .inl d => cases (cell_inj (k := some (some eb)) (k' := barC) hg).2
  | .inr (.inl r), .inr (.inl r') =>
    obtain ⟨rfl, -⟩ := cell_inj (k := stgC) (k' := stgC) hg
    have : r = r' := Fin.ext (congrArg Prod.fst hr)
    rw [this]
  | .inr (.inl r), .inr (.inr eb) => cases (cell_inj (k := stgC) (k' := some (some eb)) hg).2
  | .inr (.inr eb), .inr (.inl r) => cases (cell_inj (k := some (some eb)) (k' := stgC) hg).2
  | .inr (.inr eb), .inr (.inr eb') =>
    obtain ⟨rfl, hk⟩ := cell_inj (k := some (some eb)) (k' := some (some eb')) hg
    cases hk
    rfl

def allToks : Finset (GSem nD τ sig × ℕ × Dev nD) := Finset.univ.map ⟨tokOf, tokOf_inj⟩

/-- The tokens of a device's own cells. -/
def toks (c : Dev nD) : sProp 𝕄 :=
  iprop((bigSep Finset.univ fun d : Dev nD => dutyTok ER (cell c barC) 0 d) ∗ (bigSep Finset.univ fun r : Fin 3 => dutyTok ER (cell c stgC) r.val 0)
    ∗ bigSep Finset.univ fun e : Edge => iprop(dutyTok ER (cell c (sndC e)) 0 0 ∗ dutyTok ER (cell c (rcvC e)) 0 0))

theorem bigSep_bool {M : Type} [URA M] (Φ : Bool → sProp M) : bigSep Finset.univ Φ = iprop(Φ false ∗ Φ true) := by
  rw [bigSep_univ_eq_bigSepL ([false, true] : List Bool) (by decide) (by decide), bigSepL_cons', bigSepL_singleton]

theorem bigSep_maybe {M : Type} [URA M] {α : Type} [Fintype α] [DecidableEq α] (Φ : Option α → sProp M) :
    bigSep Finset.univ Φ = iprop(Φ none ∗ bigSep Finset.univ fun a => Φ (some a)) := by
  rw [bigSep_univ_at Φ none, show (Finset.univ.erase none : Finset (Option α)) = Finset.univ.map Function.Embedding.some from by
    ext a; cases a <;> simp, bigSep_map]
  rfl

/-- The cells of a device one by one. -/
theorem bigSep_own {M : Type} [URA M] (Φ : Own → sProp M) :
    bigSep Finset.univ Φ = iprop(Φ none ∗ bigSep Finset.univ fun e : Edge => iprop(Φ (some (e, false)) ∗ Φ (some (e, true)))) := by
  rw [bigSep_maybe, bigSep_univ_prod (fun eb : Edge × Bool => Φ (some eb))]
  exact congrArg (fun P => iprop(Φ none ∗ P)) (bigSep_congr fun e _ => bigSep_bool fun b => Φ (some (e, b)))

theorem toks_eq : bigSep allToks (fun x => (dutyTok ER x.1 x.2.1 x.2.2 : sProp 𝕄)) = bigSep Finset.univ fun c : Dev nD => toks (F := F) c := by
  unfold allToks
  rw [bigSep_map, bigSep_univ_prod]
  refine bigSep_congr fun c _ => ?_
  unfold toks
  rw [bigSep_two, bigSep_two, bigSep_univ_prod]
  exact congrArg (fun P => iprop((bigSep Finset.univ fun d : Dev nD => dutyTok ER (cell c barC) 0 d)
    ∗ (bigSep Finset.univ fun r : Fin 3 => dutyTok ER (cell c stgC) r.val 0) ∗ P)) (bigSep_congr fun e _ => bigSep_bool fun b => dutyTok ER (cell c (some (some (e, b)))) 0 0)

/-- The tokens a device pays with. -/
def payToks (c : Dev nD) : sProp 𝕄 :=
  iprop(bigSepL (devs c) (fun d => dutyTok ER (cell d barC) 0 c) ∗ (bigSep Finset.univ fun r : Fin 3 => dutyTok ER (cell c stgC) r.val 0)
    ∗ (bigSep Finset.univ fun e : Edge => dutyTok ER (cell c (sndC e)) 0 0) ∗ bigSep Finset.univ fun e : Edge => dutyTok ER (cell (peer c e) (rcvC e)) 0 0)

/-- A transfer seen from its other end. -/
def across : Dev nD × Edge ≃ Dev nD × Edge where
  toFun p := (peer p.1 p.2, p.2)
  invFun p := (peer p.1 p.2, p.2)
  left_inv p := by simp only [peer_peer]
  right_inv p := by simp only [peer_peer]

/-- The tokens go to whoever pays with them. -/
theorem toks_around : (bigSep Finset.univ fun c : Dev nD => (toks c : sProp 𝕄)) ⊢ bigSep Finset.univ fun c : Dev nD => payToks (F := F) c := by
  have hb : (bigSep Finset.univ fun c : Dev nD => bigSep Finset.univ fun d : Dev nD => (dutyTok ER (cell c barC) 0 d : sProp 𝕄))
      ⊢ bigSep Finset.univ fun c : Dev nD => bigSepL (devs c) (fun d => (dutyTok ER (cell d barC) 0 c : sProp 𝕄)) := by
    rw [← bigSep_univ_prod (fun p : Dev nD × Dev nD => (dutyTok ER (cell p.1 barC) 0 p.2 : sProp 𝕄)), bigSep_univ_equiv (Equiv.prodComm (Dev nD) (Dev nD)), bigSep_univ_prod]
    refine bigSep_mono fun c _ => ?_
    show (bigSep Finset.univ fun d : Dev nD => (dutyTok ER (cell d barC) 0 c : sProp 𝕄)) ⊢ bigSepL (devs c) (fun d => (dutyTok ER (cell d barC) 0 c : sProp 𝕄))
    rw [bigSep_univ_at _ c, bigSep_eq_bigSepL_of_eq (devs c) (devs_all c) (devs_nodup c)]
    iintro ⟨-, H⟩
    iexact H
  have hr : (bigSep Finset.univ fun c : Dev nD => bigSep Finset.univ fun e : Edge => (dutyTok ER (cell c (rcvC e)) 0 0 : sProp 𝕄))
      = bigSep Finset.univ fun c : Dev nD => bigSep Finset.univ fun e : Edge => (dutyTok ER (cell (peer c e) (rcvC e)) 0 0 : sProp 𝕄) := by
    rw [← bigSep_univ_prod (fun p : Dev nD × Edge => (dutyTok ER (cell p.1 (rcvC p.2)) 0 0 : sProp 𝕄)), bigSep_univ_equiv across, bigSep_univ_prod]
    rfl
  unfold toks payToks
  simp only [bigSep_sep']
  rw [hr]
  iintro ⟨H1, H2, H3, H4⟩
  isplitl [H1]; · iapply hb; iexact H1
  isplitl [H2]; · iexact H2
  isplitl [H3] <;> iassumption

/-- Its places and its tokens are what the body starts with. -/
theorem lin_intro (c : Dev nD) : iprop((bigSep Finset.univ fun k : Ck => atPos ER (cell c k) 0 ∅ 0) ∗ payToks (F := F) c) ⊢ lin (F := F) c := by
  unfold payToks lin
  rw [bigSep_maybe (fun k : Ck => (atPos ER (cell c k) 0 ∅ 0 : sProp 𝕄)), bigSep_own (fun k : Own => (atPos ER (cell c (some k)) 0 ∅ 0 : sProp 𝕄)), bigSep_sep',
    bigSep_univ_eq_bigSepL ([0, 1, 2] : List (Fin 3)) (by decide) (by decide), bigSepL_cons', bigSepL_cons', bigSepL_singleton]
  have h : iprop((bigSep Finset.univ fun e : Edge => (dutyTok ER (cell c (sndC e)) 0 0 : sProp 𝕄))
      ∗ (bigSep Finset.univ fun e : Edge => (dutyTok ER (cell (peer c e) (rcvC e)) 0 0 : sProp 𝕄))
      ∗ (bigSep Finset.univ fun e : Edge => (atPos ER (cell c (sndC e)) 0 ∅ 0 : sProp 𝕄))
      ∗ (bigSep Finset.univ fun e : Edge => (atPos ER (cell c (rcvC e)) 0 ∅ 0 : sProp 𝕄))) ⊢ bigSep Finset.univ (ghostE (F := F) c) := by
    unfold ghostE
    simp only [bigSep_sep']
    iintro ⟨H1, H2, H3, H4⟩
    isplitr [H4]
    · isplitl [H1]; · iexact H1
      isplitl [H2]; · iexact H2
      iexact H3
    · iexact H4
  iintro ⟨⟨HaB, HaS, Ha1, Ha2⟩, Hb, ⟨Ht0, Ht1, Ht2⟩, H1, H2⟩
  isplitl [HaB HaS]
  · isplitl [HaB] <;> iassumption
  isplitl [Ht0 Ht1 Ht2]
  · isplitl [Ht0]; · iexact Ht0
    isplitl [Ht1]; · iexact Ht1
    iexact Ht2
  isplitl [Hb]; · iexact Hb
  iapply h
  isplitl [H1]; · iexact H1
  isplitl [H2]; · iexact H2
  isplitl [Ha1] <;> iassumption

/-! ## The launch credit -/

theorem toTell_bar (O : CellTallies nD τ sig Unit) (c : Dev nD) : ∀ l : List (Dev nD), toTell O l (cell c barC) () = O (cell c barC) () + l.count c
  | [] => rfl
  | d :: l => by
    show (toTell O l + tallyAt (cell d barC) () 1) (cell c barC) () = _
    rw [Pi.add_apply, Finsupp.add_apply, toTell_bar O c l, tallyAt_apply, List.count_cons, Nat.add_assoc]
    congr 2
    by_cases h : d = c
    · subst h
      rw [if_pos ⟨rfl, rfl⟩, if_pos (by simp)]
    · rw [if_neg fun h' => h (cell_inj h'.1).1.symm, if_neg (by simpa using h)]

theorem toTell_other (O : CellTallies nD τ sig Unit) (g : GSem nD τ sig) (u : Unit) (h : ∀ d, g ≠ cell d barC) : ∀ l : List (Dev nD), toTell O l g u = O g u
  | [] => rfl
  | d :: l => by
    show (toTell O l + tallyAt (cell d barC) () 1) g u = _
    rw [Pi.add_apply, Finsupp.add_apply, toTell_other O g u h l, tallyAt_apply, if_neg fun h' => h d h'.1, Nat.add_zero]

theorem owed_bar (d c : Dev nD) : owed d 0 (cell c barC) () = 0 := by
  refine Nat.eq_zero_of_not_pos fun h => ?_
  obtain ⟨e, -, hc⟩ := owed_pos d h
  cases (cell_inj hc).2

theorem owed_rcv (d c : Dev nD) (e : Edge) : owed d 0 (cell c (rcvC e)) () = if d = peer c e then N e else 0 := by
  unfold owed
  rw [Finset.sum_apply, Finsupp.finset_sum_apply, Finset.sum_eq_single e]
  · rw [tallyAt_apply]
    by_cases h : d = peer c e
    · rw [if_pos h, if_pos ⟨by rw [h, peer_peer], rfl⟩]
    · rw [if_neg h, if_neg fun h' => h (by rw [(cell_inj h'.1).1, peer_peer])]
  · intro e' _ he
    rw [tallyAt_apply, if_neg]
    intro h'
    have := (cell_inj h'.1).2
    cases this
    exact he rfl
  · intro h
    exact absurd (Finset.mem_filter.mpr ⟨Finset.mem_univ e, has_zero e⟩) h

theorem told : ∀ c : Dev nD, ∑ d : Dev nD, (devs d).count c = 7 := by decide +kernel

theorem launch_bar (c : Dev nD) : tallyOn (cell c barC) (launchCredit (Pipeline.owing O₀) 0 (cell c barC)) = (tallyAt (cell c barC) () 7 : CellTallies nD τ sig Unit) := by
  unfold tallyAt
  refine congrArg _ (Finsupp.ext fun u => ?_)
  cases u
  rw [Pipeline.launchCredit_owing, Finsupp.single_eq_same, ← told c]
  refine Finset.sum_congr rfl fun d _ => ?_
  unfold O₀
  rw [toTell_bar, owed_bar, Nat.zero_add]

theorem launch_rcv (c : Dev nD) (e : Edge) :
    tallyOn (cell c (rcvC e)) (launchCredit (Pipeline.owing O₀) 0 (cell c (rcvC e))) = (tallyAt (cell c (rcvC e)) () (N e) : CellTallies nD τ sig Unit) := by
  unfold tallyAt
  refine congrArg _ (Finsupp.ext fun u => ?_)
  cases u
  rw [Pipeline.launchCredit_owing, Finsupp.single_eq_same, Finset.sum_congr rfl fun d _ => show O₀ d (cell c (rcvC e)) () = if d = peer c e then N e else 0 from by
    unfold O₀
    rw [toTell_other _ _ _ (fun d' h => by cases (cell_inj h).2), owed_rcv], Finset.sum_ite_eq' Finset.univ (peer c e) fun _ => N e, if_pos (Finset.mem_univ _)]

/-- The cells the launch deals credit at. -/
def heard : Option Edge ↪ SemLoc sig where
  toFun
    | none => csem barC
    | some e => csem (rcvC e)
  inj' a b h := by
    match a, b with
    | none, none => rfl
    | none, some e => cases csem_inj barC (rcvC e) h
    | some e, none => cases csem_inj (rcvC e) barC h
    | some e, some e' =>
      cases csem_inj (rcvC e) (rcvC e') h
      rfl

theorem creds (c : Dev nD) : (Pipeline.launchCred O₀ c : sProp 𝕄) ⊢ credits (F := F) c := by
  unfold Pipeline.launchCred credits
  refine (show _ ⊢ _ from bigSep_subset (Finset.subset_univ (Finset.univ.map heard))).trans (Entails.of_eq ?_)
  rw [bigSep_map, bigSep_maybe, ← launch_bar, bigSep_congr fun e _ => congrArg cred (launch_rcv c e).symm]
  rfl

/-! ## The waits of the staging copies -/

theorem O₀_pos {c : Dev nD} {g : GSem nD τ sig} {u : Unit} (h : 0 < O₀ c g u) : (∃ d, g = cell d barC) ∨ ∃ d e, g = cell d (rcvC e) := by
  by_cases hb : ∃ d, g = cell d barC
  · exact Or.inl hb
  · unfold O₀ at h
    rw [toTell_other _ _ _ (fun d hd => hb ⟨d, hd⟩)] at h
    obtain ⟨e, -, he⟩ := owed_pos c h
    exact Or.inr ⟨_, e, he⟩

theorem lv_other (c : Dev nD) (s : SemLoc sig) (h : ∀ k, csem k ≠ s) : lv ((c : Thread nD τ), s) () = 0 := by
  have hn : kindOf s = none := by
    unfold kindOf
    exact dif_neg fun ⟨k, hk⟩ => h k hk
  unfold lv
  rw [hn]

theorem mayWait_stage (c : Dev nD) (s : SemLoc sig) (hs : ∀ k, csem k ≠ s) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_cell]; exact Finset.mem_singleton_self _)
      (fun g u hg => by
        rcases O₀_pos hg with ⟨d, rfl⟩ | ⟨d, e, rfl⟩ <;> rw [L_cell] <;> exact Finset.mem_singleton_self _)
      (fun p hp => by rw [Finset.mem_singleton.mp hp, lv_other c s hs])
      (fun g u hg => by
        rcases O₀_pos hg with ⟨d, rfl⟩ | ⟨d, e, rfl⟩
        · rw [lv_cell]; exact Nat.one_pos
        · rw [lv_cell]; exact lvE_pos e)
  · rw [MayWait_zero]; iintro -; iempintro

end Cert.KernelIdeal.Tree

end
-- ==== Proof.Launch.lean ====
/-
The launch: every device's schedule set up at once, and the run of the whole mesh.
-/
module

public import proofs.«01_k».proof.Proof.Ghost
public import Idealize.ShloMosaic.Lib.Pipeline.CollectiveSegs
public import Idealize.ShloMosaic.Lib.Quiescent

@[expose] public section

noncomputable section

namespace Cert.KernelIdeal.Tree

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What the launch element deals a device. -/
def G (c : Dev nD) : sProp 𝕄 :=
  iprop((bigSep Finset.univ fun k : Ck => roundState ER (Rd (xin m) (win m)) (cell c k) 0)
    ∗ (bigSep Finset.univ fun k : Ck => iprop(atPos ER (cell c k) 0 ∅ 0 ∗ reached ER (cell c k) 0)) ∗ toks (F := F) c)

/-- What the mesh makes of it. -/
def G' (c : Dev nD) : sProp 𝕄 := iprop(∃ K, recs (xin m) (win m) K ∗ lin (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (cell c k) := by
    unfold allCells; rw [bigSep_map, bigSep_univ_prod]; rfl
  iintro HX
  imod (Rounds.fund ER (Rd (xin m) (win m)) allCells allToks) $$ HX with ⟨Hst, Hr, Hat, Htok⟩
  imodintro
  ihave Hst' := (Entails.of_eq (hX fun g => roundState ER (Rd (xin m) (win m)) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c barC) 0 := by
  unfold unscopedSems0; rw [bigSep_eq_bigSepL_of_eq [SemLoc.reg barSem] (by decide +kernel) (by decide +kernel)]; rfl

/-- A device's semaphores are its cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Ck => semVal (cell c k) 0 : sProp 𝕄) := by
  rw [unscopedSems0_eq, bigSep_maybe]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd (xin m) (win m)) κ (cell c k)))
          ∗ (bigSep Finset.univ fun k : Ck => iprop(atPos ER (cell c k) 0 ∅ 0 ∗ reached ER (cell c k) 0)) ∗ toks (F := F) c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Ck => semVal (cell c k) 0) ∗ bigSep Finset.univ fun k : Ck => roundState ER (Rd (xin m) (win m)) (cell c k) 0)
      ⊢ (|={Set.univ}=> bigSep Finset.univ fun k : Ck => iprop(∃ κ : ℕ, cellInv ER (Rd (xin m) (win m)) κ (cell c k)) : sProp 𝕄) from by
        rw [← bigSep_sep']
        exact (bigSep_mono fun k _ => (Rounds.body_intro ER (Rd (xin m) (win m)) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_recs {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (Rd (xin m) (win m)) κ (cell c k)))
          ∗ (bigSep Finset.univ fun k : Ck => iprop(atPos ER (cell c k) 0 ∅ 0 ∗ reached ER (cell c k) 0)) ∗ toks (F := F) c) : sProp 𝕄)
      ⊢ bigSep Finset.univ (G' m) := by
  rw [bigSep_sep', bigSep_sep', ← bigSep_univ_prod (fun ck : Dev nD × Ck => iprop(∃ κ : ℕ, cellInv ER (Rd (xin m) (win m)) κ (kcell ck))),
    bigSep_congr (s := Finset.univ) (fun (c : Dev nD) _ => bigSep_sep' Finset.univ (fun k : Ck => (atPos ER (cell c k) 0 ∅ 0 : sProp 𝕄)) (fun k => reached ER (cell c k) 0)),
    bigSep_sep', ← bigSep_univ_prod (fun ck : Dev nD × Ck => (reached ER (kcell ck) 0 : sProp 𝕄))]
  iintro ⟨HI, ⟨Hat, Hr⟩, Htok⟩
  ihave HK := (BI.bigSep_exists_pi Finset.univ (fun (ck : Dev nD × Ck) (κ : ℕ) => (cellInv ER (Rd (xin m) (win m)) κ (kcell ck) : sProp 𝕄))) $$ HI
  icases HK with ⟨%K, HI⟩
  ihave Htk := (toks_around (F := F)) $$ Htok
  iapply (with_recs (R := recs (xin m) (win m) K) (Φ := fun c : Dev nD => iprop((bigSep Finset.univ fun k : Ck => (atPos ER (cell c k) 0 ∅ 0 : sProp 𝕄)) ∗ payToks (F := F) c))
    fun c _ => show _ ⊢ G' m c from by
      unfold G'
      iintro ⟨HR, Hl⟩
      iexists K
      isplitl [HR]; · iexact HR
      iapply (lin_intro (F := F) c); iexact Hl)
  isplitl [HI Hr]
  · unfold recs
    rw [bigSep_sep']
    isplitl [HI]; · iexact HI
    iexact Hr
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the body and out of it -/

theorem weight_eq (c : Dev nD) : (ownsTc c (Memref.whole main_arg1) fullShare (win m c) : sProp 𝕄) = (((c : Thread nD τ).loc main_arg1) ↦{fullShare} m ((c : Thread nD τ).loc main_arg1)) :=
  (owns_eq c (Memref.whole main_arg1) fullShare (f := m ((c : Thread nD τ).loc main_arg1)) (View.read_whole _ _)).trans (by rw [View.set_whole])

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hw, Hlev, Hcr, -, HG⟩
  ihave Hc := (creds (F := F) c) $$ Hcr
  ihave Hw := (Entails.of_eq ((unscopedRest0_eq c fun b => m ((c : Thread nD τ).loc b)).trans (weight_eq m c).symm)) $$ Hw
  imodintro
  unfold start G'
  isplitl
  · isplitl [HG]; · iexact HG
    isplitl [Hc]; · iexact Hc
    isplitl [Hlev]; · iexact Hlev
    iexact Hw
  · iempintro

theorem scratch_eq (c : Dev nD) : (Pipeline.scopedRest (Ix := Unit) (Name := ℕ) (U := UU) (Lvl := ℕ) (Val := Elt F) cfg0.spec c : sProp 𝕄)
    = iprop(room c (Memref.whole cc0_scratch0) ∗ room c (Memref.whole cc0_scratch1) ∗ room c (Memref.whole cc0_scratch2) ∗ room c (wb 0) ∗ room c (wb 1) ∗ room c (wb 2)) := by
  rw [show (room c (wb 0) : sProp 𝕄) = room c (Memref.whole cc0_scratch3) from rfl, show (room c (wb 1) : sProp 𝕄) = room c (Memref.whole cc0_scratch4) from rfl,
    show (room c (wb 2) : sProp 𝕄) = room c (Memref.whole cc0_scratch5) from rfl, room_whole, room_whole, room_whole, room_whole, room_whole, room_whole]
  exact scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ scratch
  iintro ⟨Hs, -, ⟨H0, H1, H2, H3, H4, H5⟩⟩
  isplitl [Hs]; · iexact Hs
  isplitl [H0 H3 H4 H5]
  · isplitl [H0]; · iexact H0
    isplitl [H3]; · iexact H3
    isplitl [H4] <;> iassumption
  isplitl [H1] <;> iassumption

/-- What the run's end reads: the semaphores and the weight. -/
def left (c : Dev nD) : sProp 𝕄 := iprop(unscopedSems0 c ∗ (((c : Thread nD τ).loc main_arg1) ↦{fullShare} m ((c : Thread nD τ).loc main_arg1)))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scratch_eq]
  have hs : quiet (F := F) c ⊢ iprop(unscopedSems0 c ∗ Pipeline.ownSems0 (Ix := Unit) (Name := ℕ) (U := UU) (Lvl := ℕ) (Val := Elt F) (τ := τ) osem c) := by
    rw [sems_eq, bigSep_maybe, bigSep_own]
    unfold quiet
    iintro ⟨H1, H2, H3⟩
    isplitl [H3]; · iexact H3
    isplitl [H2]; · iexact H2
    iexact H1
  unfold Φ₁ scratch left
  iintro ⟨⟨⟨H0, H3, H4, H5⟩, H1, H2⟩, Hq, Hw⟩
  ihave Hq := hs $$ Hq
  icases Hq with ⟨Hu, Ho⟩
  isplitl [Hu Hw]
  · isplitl [Hu]; · iexact Hu
    iapply (Entails.of_eq (weight_eq m c)); iexact Hw
  isplitl [Ho]; · iexact Ho
  isplitl [H0]; · iexact H0
  isplitl [H1]; · iexact H1
  isplitl [H2]; · iexact H2
  isplitl [H3]; · iexact H3
  isplitl [H4] <;> iassumption

theorem staging_apart : ∀ (w : Fin cfg0.W) (s : Fin (cfg0.win w).nbuf) (k : Ck), csem k ≠ .dma ((cfg0.win w).sem s) := by
  intro w s k
  match k with
  | none => exact fun h => by cases h
  | some k => exact ownSemFacts.disj k w s

theorem waits (c : Dev nD) : (levAts L lv : sProp 𝕄) ⊢ Pipeline.cellsWaits cfgs (dats m) () 0 c :=
  Pipeline.cellsWaits_intro cfgs (dats m) () 0 c fun w s t =>
    mayWait_stage c _ (staging_apart w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- Every weakly fair execution of the mesh ends, with each device's result computed, its arguments as they were and
    every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold left
      iintro ⟨⟨Hu, Hw⟩, -, HSI⟩
      icombine HSI Hw gives %hw
      imod (Pipeline.unscopedSems0_read (X := unscopedSems0 c) (c := c) fupd_intro s') $$ [Hu HSI] with ⟨%hu, HSI⟩
      · isplitl [Hu] <;> iassumption
      imodintro
      isplitr
      · ipureintro; exact ⟨hu, Buf.eq_of_forall_mem_univ hw⟩
      iexact HSI)
    (hQ := fun _ h hs => ⟨fun c => ⟨(h c).1, (h c).2.2.2⟩, sem_eq_zero hs fun c => (h c).2.2.1⟩)

theorem finalA_in (c : Dev nD) (w : Fin cfg0.W) (hw : (cfg0.win w).isOut = false) : finalA m c w = m ((cfg0.win w).arr.view.loc (c : Thread nD τ)) :=
  (dats (F := F) m 0 c).arrAt_in w hw _

end Cert.KernelIdeal.Tree

end
-- ==== Proof.Value.lean ====
/-
What the kernel computes over the extended reals: on each device the sum over the eight devices of their products,
scaled and clipped at zero.
-/
module

public import proofs.«01_k».proof.Proof.Launch
public import Idealize.ShloMosaic.Lib.MatmulPlain
public import Idealize.ShloMosaic.Lib.ValueIdx
public import Idealize.ShloMosaic.Lib.Pipeline.Value

@[expose] public section

noncomputable section

namespace Cert.KernelIdeal.Tree

open Cert.KernelIdeal Cert.KernelIdeal.Gen
open Idealize.ShloMosaic Idealize.ShloMosaic.TcCoe
open Idealize.ShloMosaic.ValueIdx
open scoped BigOperators

/-! ## The payloads at an element -/

/-- A product into zeros, at an element. -/
theorem prod_apply {n : ℕ} {φ₁ φ₂ : FTy} (d : DotDims ⟨2, ![512, 512]⟩ ⟨2, ![512, n]⟩ ⟨2, ![512, n]⟩) (hd : d = DotDims.plain 512 512 n)
    (b : FVec Ideal ⟨2, ![512, 512]⟩ φ₁) (w : FVec Ideal ⟨2, ![512, n]⟩ φ₂) (r : Fin 512) (j : Fin n) :
    matmul d none b w (constant ⟨2, ![512, n]⟩ .f32 0x00000000#32) (ix2 r j) = ∑ k : Fin 512, b (ix2 r k) * w (ix2 k j) := by
  subst hd
  unfold matmul
  rw [Ideal.matmul_plain_apply, constant_apply, Ideal.ofBits_zero_f32, zero_add]

/-- An accumulation at an element. -/
theorem add_form {n : ℕ} (d : DotDims ⟨2, ![512, 512]⟩ ⟨2, ![512, n]⟩ ⟨2, ![512, n]⟩) (hd : d = DotDims.plain 512 512 n)
    (h0 : (⟨2, ![512, n]⟩ : Shape).ShapeCasts ⟨2, ![512, n]⟩) (h1 : S512x512.ShapeCasts S1x512x512) (h2 : S1x512x512.ShapeCasts S512x512)
    (h3 : (⟨2, ![512, n]⟩ : Shape).ShapeCasts ⟨3, ![1, 512, n]⟩) (h4 : (⟨3, ![1, 512, n]⟩ : Shape).ShapeCasts ⟨2, ![512, n]⟩)
    (a : FVec Ideal ⟨2, ![512, n]⟩ .f32) (b : FVec Ideal S512x512 .fp8e5m2) (w : FVec Ideal ⟨2, ![512, n]⟩ .fp8e5m2) (r : Fin 512) (j : Fin n) :
    addf (shapeCast _ a h0) (matmul d none (shapeCast S512x512 (shapeCast S1x512x512 b h1) h2)
        (shapeCast ⟨2, ![512, n]⟩ (shapeCast ⟨3, ![1, 512, n]⟩ w h3) h4) (constant ⟨2, ![512, n]⟩ .f32 0x00000000#32)) (ix2 r j)
      = a (ix2 r j) + ∑ k : Fin 512, b (ix2 r k) * w (ix2 k j) := by
  rw [shapeCast_self, shapeCast_shapeCast, shapeCast_shapeCast, addf_apply, prod_apply d hd]

/-- A last accumulation, scaled and clipped. -/
theorem fin_form {n : ℕ} (d : DotDims ⟨2, ![512, 512]⟩ ⟨2, ![512, n]⟩ ⟨2, ![512, n]⟩) (hd : d = DotDims.plain 512 512 n)
    (h0 : (⟨2, ![512, n]⟩ : Shape).ShapeCasts ⟨2, ![512, n]⟩) (h1 : S512x512.ShapeCasts S1x512x512) (h2 : S1x512x512.ShapeCasts S512x512)
    (h3 : (⟨2, ![512, n]⟩ : Shape).ShapeCasts ⟨3, ![1, 512, n]⟩) (h4 : (⟨3, ![1, 512, n]⟩ : Shape).ShapeCasts ⟨2, ![512, n]⟩) (sc : EReal)
    (a : FVec Ideal ⟨2, ![512, n]⟩ .f32) (b : FVec Ideal S512x512 .fp8e5m2) (w : FVec Ideal ⟨2, ![512, n]⟩ .fp8e5m2) (r : Fin 512) (j : Fin n) :
    maximumf (mulf (addf (shapeCast _ a h0) (matmul d none (shapeCast S512x512 (shapeCast S1x512x512 b h1) h2)
        (shapeCast ⟨2, ![512, n]⟩ (shapeCast ⟨3, ![1, 512, n]⟩ w h3) h4) (constant ⟨2, ![512, n]⟩ .f32 0x00000000#32)))
        (broadcast ⟨2, ![512, n]⟩ sc : FVec Ideal ⟨2, ![512, n]⟩ .f32)) (broadcast ⟨2, ![512, n]⟩ (Scalar.ofBits (F := Ideal) .f32 0x00000000#32)) (ix2 r j)
      = max ((a (ix2 r j) + ∑ k : Fin 512, b (ix2 r k) * w (ix2 k j)) * sc) 0 := by
  rw [maximumf_apply, mulf_apply, add_form d hd]
  exact congrArg (max _) Ideal.ofBits_zero_f32

theorem payAcc_apply (b : Vec Ideal S512x512 .fp8e5m2) : ∀ (t : Fin 3) (a : Vec Ideal ⟨2, ![512, nc t]⟩ .f32) (w : Vec Ideal ⟨2, ![512, nc t]⟩ .fp8e5m2)
    (r : Fin 512) (j : Fin (nc t)),
      payAcc t a (shapeCast S1x512x512 b casts_xg) (shapeCast ⟨3, ![1, 512, nc t]⟩ w (casts_slot t)) (ix2 r j)
        = a (ix2 r j) + ∑ k : Fin 512, b (ix2 r k) * w (ix2 k j)
  | 0, a, w, r, j => add_form _ rfl _ _ _ _ _ a b w r j
  | 1, a, w, r, j => add_form _ rfl _ _ _ _ _ a b w r j
  | 2, a, w, r, j => add_form _ rfl _ _ _ _ _ a b w r j

theorem payFin_apply (sc : EReal) (b : Vec Ideal S512x512 .fp8e5m2) : ∀ (t : Fin 3) (s : Bool) (a : Vec Ideal ⟨2, ![512, hc t s]⟩ .f32)
    (w : Vec Ideal ⟨2, ![512, hc t s]⟩ .fp8e5m2) (r : Fin 512) (j : Fin (hc t s)),
      payFin (F := Ideal) sc t s a (shapeCast S1x512x512 b casts_xg) (shapeCast ⟨3, ![1, 512, hc t s]⟩ w (casts_half t s)) (ix2 r j)
        = max ((a (ix2 r j) + ∑ k : Fin 512, b (ix2 r k) * w (ix2 k j)) * sc) 0
  | 0, false, a, w, r, j => fin_form _ rfl _ _ _ _ _ sc a b w r j
  | 0, true, a, w, r, j => fin_form _ rfl _ _ _ _ _ sc a b w r j
  | 1, false, a, w, r, j => fin_form _ rfl _ _ _ _ _ sc a b w r j
  | 1, true, a, w, r, j => fin_form _ rfl _ _ _ _ _ sc a b w r j
  | 2, false, a, w, r, j => fin_form _ rfl _ _ _ _ _ sc a b w r j
  | 2, true, a, w, r, j => fin_form _ rfl _ _ _ _ _ sc a b w r j

/-! ## The steps at an element -/

/-- A store into some columns of the output, at an element. -/
theorem store_apply (o n : ℕ) (inb : ∀ a, (![0, o] : Fin 2 → ℕ) a + (![512, n] : Fin 2 → ℕ) a ≤ S512x8192.size a)
    (O : Vec Ideal S512x8192 .f32) (w : Vec Ideal ⟨2, ![512, n]⟩ .f32) (r : Fin 512) (j : Fin 8192) :
    ((Memref.whole cc0_stg3_0).access (Rect.unit (s := S512x8192) ![0, o] ![512, n] inb)).write (Elt Ideal) O w Finset.univ (ix2 r j)
      = if h : o ≤ j.val ∧ j.val < o + n then w (ix2 r ⟨j.val - o, by omega⟩) else O (ix2 r j) := by
  refine (congrFun (View.write_whole_slice_unit cc0_stg3_0 ![0, o] ![512, n] inb O w) (ix2 r j)).trans ?_
  unfold updateSlice
  by_cases h : o ≤ j.val ∧ j.val < o + n
  · rw [dif_pos h, dif_pos (by
      intro a
      match a with
      | ⟨0, _⟩ => exact ⟨Nat.zero_le _, by show r.val < 0 + 512; have := r.isLt; omega⟩
      | ⟨1, _⟩ => exact h)]
    congr 1
    funext a
    match a with
    | ⟨0, _⟩ => rfl
    | ⟨1, _⟩ => rfl
  · rw [dif_neg h, dif_neg (fun h' => h (h' (1 : Fin 2)))]

/-- A load of some columns of an array, at an element. -/
theorem cols_idx (o n : ℕ) (inb : ∀ a, (![0, o] : Fin 2 → ℕ) a + (![512, n] : Fin 2 → ℕ) a ≤ S512x8192.size a) (r : Fin 512) (j : Fin n) (h : o + j.val < 8192) :
    (Rect.unit (s := S512x8192) ![0, o] ![512, n] inb).idx (ix2 r j) = (ix2 r ⟨o + j.val, h⟩ : S512x8192.Idx) := by
  funext a
  apply Fin.ext
  match a with
  | ⟨0, _⟩ => show 0 + 1 * r.val = r.val; omega
  | ⟨1, _⟩ => show o + 1 * j.val = o + j.val; omega

section Steps

variable (X : Dev nD → Vec Ideal S4096x512 .fp8e5m2) (W : Dev nD → Vec Ideal S512x8192 .f32) (c : Dev nD)

/-- What the device at cube mask `u` contributes to an element of device `c`'s rows. -/
def part (u : Fin 8) (r : Fin 512) (j : Fin 8192) : EReal :=
  ∑ k : Fin 512, (X (nbr c u) (ix2 ⟨512 * c.val + r.val, row_lt c r⟩ k) : EReal) * W (nbr c u) (ix2 k j)

/-- The rows of `x` from another device. -/
theorem got_x_apply (V : Dev nD → Vec Ideal S512x8192 .fp8e5m2) (u : Fin 7) (r k : Fin 512) :
    got X V c (.x u) (ix2 r k) = X (nbr c u.succ) (ix2 ⟨512 * c.val + r.val, row_lt c r⟩ k) := by
  show X (nbr c u.succ) ((rX (nbr c u.succ) u).idx (ix2 r k)) = _
  congr 1
  funext a
  apply Fin.ext
  match a with
  | ⟨0, _⟩ =>
    show k0_off1 (nbr c u.succ) (BitVec.ofNat 32 (1 + u.val)) 0 + 1 * r.val = 512 * c.val + r.val
    rw [off1_eq, nbr_nbr]
    show 512 * c.val + 1 * r.val = 512 * c.val + r.val
    omega
  | ⟨1, _⟩ =>
    show k0_off1 (nbr c u.succ) (BitVec.ofNat 32 (1 + u.val)) 1 + 1 * k.val = k.val
    rw [off1_eq]
    show 0 + 1 * k.val = k.val
    omega

theorem own_x_apply (r k : Fin 512) : X c ((rOwn c).idx (ix2 r k)) = X c (ix2 ⟨512 * c.val + r.val, row_lt c r⟩ k) := by
  congr 1
  funext a
  apply Fin.ext
  match a with
  | ⟨0, _⟩ =>
    show k0_off2 c 0 + 1 * r.val = 512 * c.val + r.val
    rw [off2_eq]
    show 512 * c.val + 1 * r.val = 512 * c.val + r.val
    omega
  | ⟨1, _⟩ =>
    show k0_off2 c 1 + 1 * k.val = k.val
    rw [off2_eq]
    show 0 + 1 * k.val = k.val
    omega

/-- The first product, at an element. -/
theorem firstO_apply (r : Fin 512) (j : Fin 8192) : firstO X W c (ix2 r j) = part X W c 0 r j := by
  unfold firstO k0_pay6 k0_pay5
  dsimp only
  rw [shapeCast_shapeCast, shapeCast_self]
  refine (prod_apply (n := 8192) (φ₁ := .fp8e5m2) (φ₂ := .fp8e5m2) _ rfl _ _ r j).trans ?_
  unfold part
  rw [nbr_zero]
  exact Finset.sum_congr rfl fun k _ => congrArg (· * _) (own_x_apply X c r k)

/-- A slot's product added, at an element. -/
theorem accO_apply (t : Fin 3) (m : Fin 6) (O : Vec Ideal S512x8192 .f32) (r : Fin 512) (j : Fin 8192) :
    accO X W c t m O (ix2 r j) = if c0 t ≤ j.val ∧ j.val < c0 t + nc t then O (ix2 r j) + part X W c m.castSucc.succ r j else O (ix2 r j) := by
  unfold accO
  refine (store_apply (c0 t) (nc t) _ O _ r j).trans ?_
  by_cases h : c0 t ≤ j.val ∧ j.val < c0 t + nc t
  · rw [dif_pos h, if_pos h]
    refine (payAcc_apply _ t _ _ r _).trans ?_
    have hj : ∀ q : Fin 512, (rCol t).idx (ix2 q (⟨j.val - c0 t, by omega⟩ : Fin (nc t))) = (ix2 q j : S512x8192.Idx) := fun q => by
      rw [cols_idx (c0 t) (nc t) _ q _ (by show c0 t + (j.val - c0 t) < 8192; have := j.isLt; omega)]
      congr 1
      exact Fin.ext (by show c0 t + (j.val - c0 t) = j.val; omega)
    refine congrArg₂ (· + ·) (congrArg O (hj r)) (Finset.sum_congr rfl fun k _ => congrArg₂ (· * ·) (got_x_apply X c (W8 W) m.castSucc r k) ?_)
    exact congrArg (W (nbr c m.castSucc.succ)) (hj k)
  · rw [dif_neg h, if_neg h]

/-- A half's last product added, scaled and clipped, at an element. -/
theorem finO_apply (sc : EReal) (t : Fin 3) (s : Bool) (O : Vec Ideal S512x8192 .f32) (r : Fin 512) (j : Fin 8192) :
    finO (F := Ideal) X W c sc t s O (ix2 r j)
      = if c0 t + ho s ≤ j.val ∧ j.val < c0 t + ho s + hc t s then max ((O (ix2 r j) + part X W c 7 r j) * sc) 0 else O (ix2 r j) := by
  unfold finO
  refine (store_apply (c0 t + ho s) (hc t s) _ O _ r j).trans ?_
  by_cases h : c0 t + ho s ≤ j.val ∧ j.val < c0 t + ho s + hc t s
  · rw [dif_pos h, if_pos h]
    refine (payFin_apply sc _ t s _ _ r _).trans ?_
    have hj : ∀ q : Fin 512, (rHcol t s).idx (ix2 q (⟨j.val - (c0 t + ho s), by omega⟩ : Fin (hc t s))) = (ix2 q j : S512x8192.Idx) := fun q => by
      rw [cols_idx (c0 t + ho s) (hc t s) _ q _ (by show c0 t + ho s + (j.val - (c0 t + ho s)) < 8192; have := j.isLt; omega)]
      congr 1
      exact Fin.ext (by show c0 t + ho s + (j.val - (c0 t + ho s)) = j.val; omega)
    refine congrArg (fun z => max (z * sc) 0) (congrArg₂ (· + ·) (congrArg O (hj r)) (Finset.sum_congr rfl fun k _ => congrArg₂ (· * ·) (got_x_apply X c (W8 W) 6 r k) ?_))
    exact congrArg (W (nbr c 7)) (hj k)
  · rw [dif_neg h, if_neg h]

/-! ## The whole run at an element -/

/-- What a step does to the element. -/
def stepE (sc : EReal) (r : Fin 512) (j : Fin 8192) (a : EReal) : Step → EReal
  | .acc t m => if c0 t ≤ j.val ∧ j.val < c0 t + nc t then a + part X W c m.castSucc.succ r j else a
  | .fin t s => if c0 t + ho s ≤ j.val ∧ j.val < c0 t + ho s + hc t s then max ((a + part X W c 7 r j) * sc) 0 else a
  | _ => a

theorem steps_apply (sc : EReal) (r : Fin 512) (j : Fin 8192) : ∀ (l : List Step) (O : Vec Ideal S512x8192 .f32),
    l.foldl (stepO (F := Ideal) X W c sc) O (ix2 r j) = l.foldl (stepE X W c sc r j) (O (ix2 r j))
  | [], _ => rfl
  | i :: l, O => by
    rw [List.foldl_cons, List.foldl_cons, steps_apply sc r j l]
    congr 1
    match i with
    | .send e => rfl
    | .recv e => rfl
    | .done e => rfl
    | .acc t m => exact accO_apply X W c t m O r j
    | .fin t s => exact finO_apply X W c sc t s O r j

/-- The same, for a column known to lie in half `S` of stripe `T`. -/
def stepP (P : Fin 8 → EReal) (sc : EReal) (T : Fin 3) (S : Bool) (a : EReal) : Step → EReal
  | .acc t m => if t = T then a + P m.castSucc.succ else a
  | .fin t s => if t = T ∧ s = S then max ((a + P 7) * sc) 0 else a
  | _ => a

/-- The stripes and their halves split the columns. -/
theorem col_half (j : Fin 8192) : ∃ T : Fin 3, ∃ S : Bool, ∀ (t : Fin 3) (s : Bool),
    ((c0 t ≤ j.val ∧ j.val < c0 t + nc t) ↔ t = T) ∧ ((c0 t + ho s ≤ j.val ∧ j.val < c0 t + ho s + hc t s) ↔ t = T ∧ s = S) := by
  have hj := j.isLt
  have key : ∀ (T : Fin 3) (S : Bool), c0 T + ho S ≤ j.val → j.val < c0 T + ho S + hc T S → ∀ (t : Fin 3) (s : Bool),
      ((c0 t ≤ j.val ∧ j.val < c0 t + nc t) ↔ t = T) ∧ ((c0 t + ho s ≤ j.val ∧ j.val < c0 t + ho s + hc t s) ↔ t = T ∧ s = S) := by
    intro T S h1 h2 t s
    fin_cases T <;> cases S <;> fin_cases t <;> cases s <;> simp [c0, nc, ho, hc] at h1 h2 ⊢ <;> omega
  by_cases h1 : j.val < 1408
  · exact ⟨0, false, key 0 false (Nat.zero_le _) h1⟩
  by_cases h2 : j.val < 2816
  · exact ⟨0, true, key 0 true (by show 0 + 1408 ≤ j.val; omega) h2⟩
  by_cases h3 : j.val < 4224
  · exact ⟨1, false, key 1 false (by show 2816 + 0 ≤ j.val; omega) h3⟩
  by_cases h4 : j.val < 5504
  · exact ⟨1, true, key 1 true (by show 2816 + 1408 ≤ j.val; omega) h4⟩
  by_cases h5 : j.val < 6912
  · exact ⟨2, false, key 2 false (by show 5504 + 0 ≤ j.val; omega) h5⟩
  · exact ⟨2, true, key 2 true (by show 5504 + 1408 ≤ j.val; omega) hj⟩

theorem stepE_eq (sc : EReal) (r : Fin 512) (j : Fin 8192) : ∃ (T : Fin 3) (S : Bool),
    stepE X W c sc r j = stepP (fun u => part X W c u r j) sc T S := by
  obtain ⟨T, S, h⟩ := col_half j
  refine ⟨T, S, ?_⟩
  funext a i
  match i with
  | .send e => rfl
  | .recv e => rfl
  | .done e => rfl
  | .acc t m => exact if_congr (h t false).1 rfl rfl
  | .fin t s => exact if_congr (h t s).2 rfl rfl

/-- The steps add the eight contributions one by one, then scale and clip. -/
theorem run_apply (P : Fin 8 → EReal) (sc : EReal) (T : Fin 3) (S : Bool) :
    mainSteps.foldl (stepP P sc T S) (P 0) = max ((P 0 + P 1 + P 2 + P 4 + P 3 + P 5 + P 6 + P 7) * sc) 0 := by
  fin_cases T <;> cases S <;> rfl

/-- The output block at an element: the eight contributions, scaled and clipped. -/
theorem outAt_apply (f1 f2 : S1.Idx → Ideal .f32) (r : Fin 512) (j : Fin 8192) :
    outAt X W c f1 f2 (ix2 r j) = max ((∑ u : Fin 8, part X W c u r j) * k0_pay7 (F := Ideal) (word (F := Ideal) f1) (word (F := Ideal) f2)) 0 := by
  unfold outAt
  rw [steps_apply, firstO_apply]
  obtain ⟨T, S, h⟩ := stepE_eq X W c (k0_pay7 (F := Ideal) (word (F := Ideal) f1) (word (F := Ideal) f2)) r j
  rw [h, run_apply (fun u => part X W c u r j)]
  congr 2
  rw [Fin.sum_univ_eight]
  ac_rfl

end Steps

end Cert.KernelIdeal.Tree

end
-- ==== Proof.RefValue.lean ====
/-
What the reference leaves in its result array, element by element, over the extended reals: the whole row of `x` against
the whole column of the weight, scaled and clipped.
-/
module

public import proofs.«01_k».proof.Proof.Gen.ReferenceIdeal.Value
public import Idealize.ShloMosaic.Lib.MatmulPlain
public import Idealize.ShloMosaic.Lib.ValueIdx
public import Idealize.ShloMosaic.Lib.Tactic

@[expose] public section

noncomputable section

namespace Cert.ReferenceIdeal.Whole

open Cert.ReferenceIdeal Cert.ReferenceIdeal.Gen Cert.ReferenceIdeal.Value Idealize.ShloMosaic Idealize.ShloMosaic.TcCoe Idealize.SL.Sem
open Idealize.ShloMosaic.ValueIdx

variable (m : (ℓ : Loc nD τ sig) → Buf (Elt Ideal) ℓ)

theorem zeros : (![0, 0] : Fin 2 → ℕ) = fun _ => 0 := funext fun a => by fin_cases a <;> rfl

/-- The one word of a scale. -/
def scale (f : S1.Idx → Ideal .f32) : EReal := f ((Rect.unit (s := S1) ![0] S1.size inb_S1_S1_0).idx (Shape.Idx.first (numel1_S1.symm ▸ Nat.one_pos)))

/-- The reference's result at an element: the row against the column, scaled and clipped. -/
def valueAt (x : Vec Ideal S4096x4096 .fp8e5m2) (w : Vec Ideal S4096x8192 .f32) (a b : EReal) (r : Fin 4096) (j : Fin 8192) : EReal :=
  max ((∑ k : Fin 4096, (x (ix2 r k) : EReal) * w (ix2 k j)) * (a * b)) 0

/-- The reference's result. -/
def value (x : Vec Ideal S4096x4096 .fp8e5m2) (w : Vec Ideal S4096x8192 .f32) (a b : EReal) : Vec Ideal S4096x8192 .f32 :=
  fun i => valueAt x w a b (i 0) (i 1)

/-- The body's stored value at an element. -/
theorem pay_apply (x : Vec Ideal S4096x4096 .fp8e5m2) (w : Vec Ideal S4096x8192 .f32) (a b : EReal) (r : Fin 4096) (j : Fin 8192) :
    k0_pay1 (F := Ideal) x w a b (ix2 r j) = valueAt x w a b r j := by
  unfold k0_pay1 valueAt
  rw [maximumf_apply, mulf_apply]
  refine congrArg₂ max (congrArg (· * _) ?_) Ideal.ofBits_zero_f32
  unfold matmul
  rw [show dot_S4096x4096_S4096x8192_S4096x8192_1_0_0_1_n_n = DotDims.plain 4096 4096 8192 from rfl]
  refine (Ideal.matmul_plain_apply none _ _ _ r j).trans ?_
  rw [constant_apply, Ideal.ofBits_zero_f32, zero_add]
  rfl

theorem pay_eq (x : Vec Ideal S4096x4096 .fp8e5m2) (w : Vec Ideal S4096x8192 .f32) (a b : EReal) : k0_pay1 (F := Ideal) x w a b = value x w a b := by
  funext i
  exact (congrArg (k0_pay1 (F := Ideal) x w a b) (eq_ix2 i)).trans (pay_apply x w a b (i 0) (i 1))

/-- What the body leaves in the staging buffer. -/
theorem out_eq (c : Dev nD) (a0 : Memref sig .tc .vmem S4096x4096 .fp8e5m2) (h0 : a0.IsWhole) (a1 : Memref sig .tc .vmem S4096x8192 .f32) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec Ideal S4096x4096 .fp8e5m2) (w : Vec Ideal S4096x8192 .f32) (p q : Vec Ideal S1 .f32) :
    out0_A_4 c a0 h0 a1 h1 a2 h2 a3 h3 a4 h4 x w p q = value x w (scale p) (scale q) := by
  unfold out0_A_4
  rw [View.read_writes_eq_canon _ _ _ (cover0_A_4 c a0 h0 a1 h1 a2 h2 a3 h3 a4 h4 x w p q)]
  unfold kernelRun0_A
  dsimp only
  sl_unfold_words
  rw [View.canon_unit_zero zeros, ← pay_eq]
  simp only [View.readAt_eq_ld, h0.read_unread, h1.read_unread, h2.read_unread, h3.read_unread, View.ld_unit_zero (S := S4096x4096) zeros, View.ld_unit_zero (S := S4096x8192) zeros]
  rfl

theorem read_x (t : Fin cfg0.N) (f : (main_arg0 : Ref sig .tc).ty.Contents (Elt Ideal)) : (win0_0.blk t).view.read (Elt Ideal) f = f := by
  have hz : (fun a => win0_0.index t a * main_arg0.ty.shape.size a) = fun _ => 0 := funext fun a => by fin_cases a <;> exact Nat.zero_mul _
  exact Memref.read_access_unit_zero (Elt Ideal) main_arg0 hz (fun a => by rw [congrFun hz a]; simp) f

theorem read_w (t : Fin cfg0.N) (f : (main_arg1 : Ref sig .tc).ty.Contents (Elt Ideal)) : (win0_1.blk t).view.read (Elt Ideal) f = f := by
  have hz : (fun a => win0_1.index t a * main_arg1.ty.shape.size a) = fun _ => 0 := funext fun a => by fin_cases a <;> exact Nat.zero_mul _
  exact Memref.read_access_unit_zero (Elt Ideal) main_arg1 hz (fun a => by rw [congrFun hz a]; simp) f

theorem read_p (t : Fin cfg0.N) (f : (main_arg2 : Ref sig .tc).ty.Contents (Elt Ideal)) : (win0_2.blk t).view.read (Elt Ideal) f = f := by
  have hz : (fun a => win0_2.index t a * main_arg2.ty.shape.size a) = fun _ => 0 := funext fun a => by fin_cases a; exact Nat.zero_mul _
  exact Memref.read_access_unit_zero (Elt Ideal) main_arg2 hz (fun a => by rw [congrFun hz a]; simp) f

theorem read_q (t : Fin cfg0.N) (f : (main_arg3 : Ref sig .tc).ty.Contents (Elt Ideal)) : (win0_3.blk t).view.read (Elt Ideal) f = f := by
  have hz : (fun a => win0_3.index t a * main_arg3.ty.shape.size a) = fun _ => 0 := funext fun a => by fin_cases a; exact Nat.zero_mul _
  exact Memref.read_access_unit_zero (Elt Ideal) main_arg3 hz (fun a => by rw [congrFun hz a]; simp) f

theorem read_o (t : Fin cfg0.N) (f : (main_v0 : Ref sig .tc).ty.Contents (Elt Ideal)) : (win0_4.blk t).view.read (Elt Ideal) f = f := by
  have hz : (fun a => win0_4.index t a * main_v0.ty.shape.size a) = fun _ => 0 := funext fun a => by fin_cases a <;> exact Nat.zero_mul _
  exact Memref.read_access_unit_zero (Elt Ideal) main_v0 hz (fun a => by rw [congrFun hz a]; simp) f

/-- The result of a memory: its four arguments' value. -/
def valueOf (c : Dev nD) : Vec Ideal S4096x8192 .f32 :=
  value (m ((c : Thread nD τ).loc main_arg0)) (m ((c : Thread nD τ).loc main_arg1)) (scale (m ((c : Thread nD τ).loc main_arg2))) (scale (m ((c : Thread nD τ).loc main_arg3)))

/-- The result array after the run. -/
theorem final (c : Dev nD) : (dats m 0 c).arrAt 4 cfg0.N = valueOf m c := by
  have hb := blocks4 m c (0 : Fin 1) (by decide)
  refine (read_o (0 : Fin 1) _).symm.trans (hb.trans ((flushed4_A m c (0 : Fin 1)).trans ((congrArg ((cfg0.win 4).cut (grid0.coords (0 : Fin 1))) (out_eq ..)).trans ?_)))
  show value (iblk m c 0 (0 : Fin 1)) (iblk m c 1 (0 : Fin 1)) (scale (iblk m c 2 (0 : Fin 1))) (scale (iblk m c 3 (0 : Fin 1))) = valueOf m c
  unfold valueOf
  rw [show iblk m c 0 (0 : Fin 1) = m ((c : Thread nD τ).loc main_arg0) from (read_x (0 : Fin 1) _).trans (V_main_arg0 m c),
    show iblk m c 1 (0 : Fin 1) = m ((c : Thread nD τ).loc main_arg1) from (read_w (0 : Fin 1) _).trans (V_main_arg1 m c),
    show iblk m c 2 (0 : Fin 1) = m ((c : Thread nD τ).loc main_arg2) from (read_p (0 : Fin 1) _).trans (V_main_arg2 m c),
    show iblk m c 3 (0 : Fin 1) = m ((c : Thread nD τ).loc main_arg3) from (read_q (0 : Fin 1) _).trans (V_main_arg3 m c)]

end Cert.ReferenceIdeal.Whole

end
-- ==== Proof.Algebra.lean ====
/-
The two programs' results are one: the blocks' products, added over the mesh, are the whole product.
-/
module

public import proofs.«01_k».proof.Defs
public import proofs.«01_k».proof.Proof.Value
public import proofs.«01_k».proof.Proof.RefValue
public import Idealize.ShloMosaic.Lib.LayoutAt

@[expose] public section

noncomputable section

namespace Cert.KernelIdeal.Tree

open Cert.KernelIdeal Cert.KernelIdeal.Gen
open Idealize.ShloMosaic Idealize.ShloMosaic.TcCoe Idealize.SL.Sem
open Idealize.ShloMosaic.ValueIdx
open scoped BigOperators

/-! ## The sums -/

/-- The `k`-th of device `d`'s columns of `x`, among all of them. -/
def colOf (d : Fin 8) (k : Fin 512) : Fin 4096 := ⟨512 * d.val + k.val, by have := d.isLt; have := k.isLt; omega⟩

/-- A sum over all the columns is a sum over the devices of the sums over theirs. -/
theorem sum_cols (g : Fin 4096 → EReal) : ∑ d : Fin 8, ∑ k : Fin 512, g (colOf d k) = ∑ k : Fin 4096, g k := by
  rw [← Fintype.sum_prod_type' (fun (d : Fin 8) (k : Fin 512) => g (colOf d k))]
  refine Fintype.sum_equiv (finProdFinEquiv (m := 8) (n := 512)) _ _ fun p => congrArg g (Fin.ext ?_)
  show 512 * p.1.val + p.2.val = p.2.val + 512 * p.1.val
  omega

/-- Going over the cube from a device goes over every device once. -/
theorem sum_nbr (c : Dev nD) (g : Dev nD → EReal) : ∑ u : Fin 8, g (nbr c u) = ∑ d : Fin 8, g d :=
  Function.Bijective.sum_comp (Finite.injective_iff_bijective.1 (nbr_inj c)) g

/-! ## The blocks -/

theorem block_x (h : Layout.Tiles S4096x512 Cert.ReferenceIdeal.S4096x4096 1 8) (d : Dev nD) (x : Vec Ideal Cert.ReferenceIdeal.S4096x4096 .fp8e5m2) (r : Fin 4096) (k : Fin 512) :
    Layout.block S4096x512 Cert.ReferenceIdeal.S4096x4096 1 8 d x h (ix2 r k) = x (ix2 r (colOf d k)) := by
  rw [Layout.block_apply]
  congr 1
  funext a
  apply Fin.ext
  match a with
  | ⟨0, _⟩ => rfl
  | ⟨1, _⟩ => show d.val * 512 + k.val = 512 * d.val + k.val; omega

theorem block_w (h : Layout.Tiles S512x8192 Cert.ReferenceIdeal.S4096x8192 0 8) (d : Dev nD) (w : Vec Ideal Cert.ReferenceIdeal.S4096x8192 .f32) (k : Fin 512) (j : Fin 8192) :
    Layout.block S512x8192 Cert.ReferenceIdeal.S4096x8192 0 8 d w h (ix2 k j) = w (ix2 (colOf d k) j) := by
  rw [Layout.block_apply]
  congr 1
  funext a
  apply Fin.ext
  match a with
  | ⟨0, _⟩ => show d.val * 512 + k.val = 512 * d.val + k.val; omega
  | ⟨1, _⟩ => rfl

/-- Device `c`'s output of the blocks of `x` and `w` is its block of the whole result. -/
theorem out_block (hx : Layout.Tiles S4096x512 Cert.ReferenceIdeal.S4096x4096 1 8) (hw : Layout.Tiles S512x8192 Cert.ReferenceIdeal.S4096x8192 0 8) (c : Dev nD)
    (x : Vec Ideal Cert.ReferenceIdeal.S4096x4096 .fp8e5m2) (w : Vec Ideal Cert.ReferenceIdeal.S4096x8192 .f32) (p q : S1.Idx → Ideal .f32) :
    outAt (F := Ideal) (fun d => Layout.block S4096x512 Cert.ReferenceIdeal.S4096x4096 1 8 d x hx) (fun d => Layout.block S512x8192 Cert.ReferenceIdeal.S4096x8192 0 8 d w hw) c p q
      = Layout.block S512x8192 Cert.ReferenceIdeal.S4096x8192 0 8 c
          (Cert.ReferenceIdeal.Whole.value x w (Cert.ReferenceIdeal.Whole.scale p) (Cert.ReferenceIdeal.Whole.scale q)) hw := by
  have key : ∀ (r : Fin 512) (j : Fin 8192),
      outAt (F := Ideal) (fun d => Layout.block S4096x512 Cert.ReferenceIdeal.S4096x4096 1 8 d x hx) (fun d => Layout.block S512x8192 Cert.ReferenceIdeal.S4096x8192 0 8 d w hw) c p q (ix2 r j)
        = Layout.block S512x8192 Cert.ReferenceIdeal.S4096x8192 0 8 c
            (Cert.ReferenceIdeal.Whole.value x w (Cert.ReferenceIdeal.Whole.scale p) (Cert.ReferenceIdeal.Whole.scale q)) hw (ix2 r j) := by
    intro r j
    rw [outAt_apply, block_w]
    show max _ 0 = max ((∑ k : Fin 4096, (x (ix2 (colOf c r) k) : EReal) * w (ix2 k j)) * _) 0
    rw [← sum_cols (fun k => (x (ix2 (colOf c r) k) : EReal) * w (ix2 k j)), ← sum_nbr c (fun d => ∑ k : Fin 512, (x (ix2 (colOf c r) (colOf d k)) : EReal) * w (ix2 (colOf d k) j))]
    refine congrArg (max · 0) (congrArg₂ (· * ·) (Finset.sum_congr rfl fun u _ => Finset.sum_congr rfl fun k _ => ?_) rfl)
    exact congrArg₂ (· * ·) (block_x hx (nbr c u) x ⟨512 * c.val + r.val, row_lt c r⟩ k) (block_w hw (nbr c u) w k j)
  funext i
  exact (congrArg _ (eq_ix2 i)).trans ((key (i 0) (i 1)).trans (congrArg _ (eq_ix2 i)).symm)

/-! ## The arrays after the run -/

section Arrays

variable (m : (ℓ : Loc nD τ sig) → Buf (Elt Ideal) ℓ)

theorem xin_eq (c : Dev nD) : xin m c = m ((c : Thread nD τ).loc main_arg0) := by
  have hz : (fun a => win0_0.index (0 : Fin 1) a * main_arg0.ty.shape.size a) = fun _ => 0 := funext fun a => by fin_cases a <;> exact Nat.zero_mul _
  exact Memref.read_access_unit_zero (Elt Ideal) main_arg0 hz (fun a => by rw [congrFun hz a]; simp) _

theorem s1in_eq (c : Dev nD) : s1in m c = m ((c : Thread nD τ).loc main_arg2) := by
  have hz : (fun a => win0_1.index (0 : Fin 1) a * main_arg2.ty.shape.size a) = fun _ => 0 := funext fun a => by fin_cases a; exact Nat.zero_mul _
  exact Memref.read_access_unit_zero (Elt Ideal) main_arg2 hz (fun a => by rw [congrFun hz a]; simp) _

theorem s2in_eq (c : Dev nD) : s2in m c = m ((c : Thread nD τ).loc main_arg3) := by
  have hz : (fun a => win0_2.index (0 : Fin 1) a * main_arg3.ty.shape.size a) = fun _ => 0 := funext fun a => by fin_cases a; exact Nat.zero_mul _
  exact Memref.read_access_unit_zero (Elt Ideal) main_arg3 hz (fun a => by rw [congrFun hz a]; simp) _

/-- The result array holds what the body left in its staging buffer. -/
theorem finalA_out (c : Dev nD) : finalA m c (3 : Fin 4) = result m c := by
  have hz : (fun a => win0_3.index (0 : Fin 1) a * main_v1.ty.shape.size a) = fun _ => 0 := funext fun a => by fin_cases a <;> exact Nat.zero_mul _
  have hr : ∀ f : (main_v1 : Ref sig .tc).ty.Contents (Elt Ideal), (win0_3.blk (0 : Fin 1)).view.read (Elt Ideal) f = f :=
    fun f => Memref.read_access_unit_zero (Elt Ideal) main_v1 hz (fun a => by rw [congrFun hz a]; simp) f
  refine (hr _).symm.trans ?_
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact (View.read_write_univ _ _).trans (congrArg ((cfg0.win (3 : Fin 4)).cut (grid0.coords (0 : Fin 1))) (after_3 m c (0 : Fin 1)))

end Arrays

/-- **The kernel computes what the reference computes**: run on the blocks of the reference's arguments, every device
    ends with its block of the reference's result, every argument as it was. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨Cert.ReferenceIdeal.Whole.valueOf m' 0, ?_, ?_⟩
  · refine (θ_run defs _ _).mono (fun r h c => ⟨((h.1 c).1 (3 : Fin 4)).trans ((finalA_out m c).trans ?_), ((h.1 c).1 (0 : Fin 4)).trans (finalA_in m c 0 rfl), (h.1 c).2,
      ((h.1 c).1 (1 : Fin 4)).trans (finalA_in m c 1 rfl), ((h.1 c).1 (2 : Fin 4)).trans (finalA_in m c 2 rfl)⟩) (run_main (F := Ideal) m ρ)
    unfold result
    rw [s1in_eq, s2in_eq, (hagree c).2.2.1, (hagree c).2.2.2]
    rw [show xin m = fun d => _ from funext fun d => (xin_eq m d).trans (hagree d).1, show win m = fun d => _ from funext fun d => (hagree d).2.1]
    exact out_block _ _ c _ _ _ _
  · exact (θ_run Cert.ReferenceIdeal.defs _ _).mono (fun r h => ⟨(h 0).1.trans (Cert.ReferenceIdeal.Whole.final m' 0), (h 0).2⟩)
      (Cert.ReferenceIdeal.Value.run_blocks (F := Ideal) m' ρ')

end Cert.KernelIdeal.Tree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.Bits.Launch
public import proofs.«01_k».proof.Proof.Algebra
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The kernel over machine words ends with its arguments as they were and every semaphore at zero. -/
theorem kernel_frame : @Cert.quiescent_Kernel Cert.Kernel.Gen.facts := fun m ρ _ =>
  (θ_run _ _ _).mono (fun _ h =>
    ⟨fun c => ⟨((h.1 c).1 (0 : Fin 4)).trans (Cert.Kernel.Tree.finalA_in m c (0 : Fin 4) rfl), (h.1 c).2,
      ((h.1 c).1 (1 : Fin 4)).trans (Cert.Kernel.Tree.finalA_in m c (1 : Fin 4) rfl),
      ((h.1 c).1 (2 : Fin 4)).trans (Cert.Kernel.Tree.finalA_in m c (2 : Fin 4) rfl)⟩, h.2⟩)
    (Cert.Kernel.Tree.run_main (F := Bits) m ρ)

/-- The kernel over the extended reals ends with its arguments as they were and every semaphore at zero. -/
theorem ideal_frame : @Cert.quiescent_KernelIdeal Cert.KernelIdeal.Gen.facts := fun m ρ _ =>
  (θ_run _ _ _).mono (fun _ h =>
    ⟨fun c => ⟨((h.1 c).1 (0 : Fin 4)).trans (Cert.KernelIdeal.Tree.finalA_in m c (0 : Fin 4) rfl), (h.1 c).2,
      ((h.1 c).1 (1 : Fin 4)).trans (Cert.KernelIdeal.Tree.finalA_in m c (1 : Fin 4) rfl),
      ((h.1 c).1 (2 : Fin 4)).trans (Cert.KernelIdeal.Tree.finalA_in m c (2 : Fin 4) rfl)⟩, h.2⟩)
    (Cert.KernelIdeal.Tree.run_main (F := Ideal) m ρ)

/-- Everything claimed. -/
theorem claim : Cert.Claim :=
  ⟨Cert.Kernel.Gen.facts, Cert.KernelIdeal.Gen.facts, Cert.ReferenceIdeal.Gen.facts,
    kernel_frame, ideal_frame, fun m ρ _ => Cert.ReferenceIdeal.Gen.frame m ρ, trivial, Cert.KernelIdeal.Tree.algebraic⟩

end Cert.Proof

end
